-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_int_map_in_range [hPre_int_map_in_range : Cert.Pre_int_map_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_int_map_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_int_map_in_range [hPre_int_map_in_range : Cert.Pre_int_map_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_int_map_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_int_map_in_range [hKernelIdeal : Cert.KernelIdeal.Facts] [hPre_int_map_in_range : Cert.Pre_int_map_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_int_map_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_int_map_in_range [hReferenceIdeal : Cert.ReferenceIdeal.Facts] [hPre_int_map_in_range : Cert.Pre_int_map_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_int_map_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_int_map_in_range [hKernelIdeal : Cert.KernelIdeal.Facts] [hReferenceIdeal : Cert.ReferenceIdeal.Facts] [hPre_int_map_in_range : Cert.Pre_int_map_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_int_map_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_int_map_in_range : Cert.Pre_int_map_in_range.Facts),
    quiescent_Kernel (hKernel := hKernel)
    ∧ quiescent_KernelIdeal (hKernelIdeal := hKernelIdeal)
    ∧ quiescent_KernelIdeal_pre_int_map_in_range (hKernelIdeal := hKernelIdeal) (hPre_int_map_in_range := hPre_int_map_in_range)
    ∧ quiescent_ReferenceIdeal (hReferenceIdeal := hReferenceIdeal)
    ∧ quiescent_ReferenceIdeal_pre_int_map_in_range (hReferenceIdeal := hReferenceIdeal) (hPre_int_map_in_range := hPre_int_map_in_range)
    ∧ preserves_Kernel_KernelIdeal
    ∧ algebraic_KernelIdeal_ReferenceIdeal_pre_int_map_in_range (hKernelIdeal := hKernelIdeal) (hReferenceIdeal := hReferenceIdeal) (hPre_int_map_in_range := hPre_int_map_in_range)
-- ==== Pre_int_map_in_range.lean ====
abbrev S2097152x8 : Shape := ⟨2, ![2097152, 8]⟩
abbrev S227x8 : Shape := ⟨2, ![227, 8]⟩
abbrev S227 : Shape := ⟨1, ![227]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S2097152x8 .f32) (main_arg1 : FVec F S227x8 .f32) (main_arg2 : FVec F S227 .f32) (main_arg3 : IVec S8 32) : IVec S8 1 :=
  let main_c : IVec S_ 32 := constantI S_ 32 4294443008#32
  let main_v0 : IVec S8 32 := broadcastInDim S8 ![] bcast_S_S8 main_c
  let main_v1 : IVec S8 1 := cmpi .sge main_arg3 main_v0
  let main_c_0 : IVec S_ 32 := constantI S_ 32 524288#32
  let main_v2 : IVec S8 32 := broadcastInDim S8 ![] bcast_S_S8 main_c_0
  let main_v3 : IVec S8 1 := cmpi .sle main_arg3 main_v2
  let main_v4 : IVec S8 1 := andi main_v1 main_v3
  main_v4
-- ==== Kernel.lean ====
abbrev S2097152x8 : Shape := ⟨2, ![2097152, 8]⟩
abbrev S227x8 : Shape := ⟨2, ![227, 8]⟩
abbrev S227 : Shape := ⟨1, ![227]⟩
abbrev S8 : Shape := ⟨1, ![8]⟩
abbrev S_ : Shape := ⟨0, ![]⟩
abbrev S8x227 : Shape := ⟨2, ![8, 227]⟩
abbrev S1x227 : Shape := ⟨2, ![1, 227]⟩
abbrev S227x227 : Shape := ⟨2, ![227, 227]⟩
abbrev S227x1 : Shape := ⟨2, ![227, 1]⟩
abbrev S227x9 : Shape := ⟨2, ![227, 9]⟩
abbrev S8x1 : Shape := ⟨2, ![8, 1]⟩
abbrev S512x1x4096 : Shape := ⟨3, ![512, 1, 4096]⟩
abbrev S4096x8 : Shape := ⟨2, ![4096, 8]⟩
abbrev S1x1x4096 : Shape := ⟨3, ![1, 1, 4096]⟩
abbrev S4096x227 : Shape := ⟨2, ![4096, 227]⟩
abbrev S4096 : Shape := ⟨1, ![4096]⟩
abbrev S4096x1 : Shape := ⟨2, ![4096, 1]⟩
abbrev S4096x9 : Shape := ⟨2, ![4096, 9]⟩
abbrev S2097152 : Shape := ⟨1, ![2097152]⟩

abbrev nBuf : Space → Nat
  | .hbm => 31
  | .vmem => 11
  | .smem => 0
  | _ => 0

abbrev bufTy : (tb : Table) → Fin (tcTables nBuf tb) → BufTy
  | .hbm, ⟨0, _⟩ => ⟨S2097152x8, .f32⟩
  | .hbm, ⟨1, _⟩ => ⟨S227x8, .f32⟩
  | .hbm, ⟨2, _⟩ => ⟨S227, .f32⟩
  | .hbm, ⟨3, _⟩ => ⟨S8, .i32⟩
  | .hbm, ⟨4, _⟩ => ⟨S_, .f32⟩
  | .hbm, ⟨5, _⟩ => ⟨S227x8, .f32⟩
  | .hbm, ⟨6, _⟩ => ⟨S227x8, .f32⟩
  | .hbm, ⟨7, _⟩ => ⟨S8x227, .f32⟩
  | .hbm, ⟨8, _⟩ => ⟨S8x227, .bf16⟩
  | .hbm, ⟨9, _⟩ => ⟨S1x227, .f32⟩
  | .hbm, ⟨10, _⟩ => ⟨S_, .bf16⟩
  | .hbm, ⟨11, _⟩ => ⟨S227x227, .bf16⟩
  | .hbm, ⟨12, _⟩ => ⟨S227x227, .i32⟩
  | .hbm, ⟨13, _⟩ => ⟨S_, .i32⟩
  | .hbm, ⟨14, _⟩ => ⟨S227x227, .i32⟩
  | .hbm, ⟨15, _⟩ => ⟨S227x227, .i32⟩
  | .hbm, ⟨16, _⟩ => ⟨S227x227, .i32⟩
  | .hbm, ⟨17, _⟩ => ⟨S227x227, .i1⟩
  | .hbm, ⟨18, _⟩ => ⟨S_, .bf16⟩
  | .hbm, ⟨19, _⟩ => ⟨S227x227, .bf16⟩
  | .hbm, ⟨20, _⟩ => ⟨S227x227, .bf16⟩
  | .hbm, ⟨21, _⟩ => ⟨S227, .f32⟩
  | .hbm, ⟨22, _⟩ => ⟨S227x1, .f32⟩
  | .hbm, ⟨23, _⟩ => ⟨S227x9, .f32⟩
  | .hbm, ⟨24, _⟩ => ⟨S227x9, .bf16⟩
  | .hbm, ⟨25, _⟩ => ⟨S8, .bf16⟩
  | .hbm, ⟨26, _⟩ => ⟨S8x1, .bf16⟩
  | .hbm, ⟨27, _⟩ => ⟨S2097152x8, .f32⟩
  | .hbm, ⟨28, _⟩ => ⟨S512x1x4096, .i32⟩
  | .hbm, ⟨29, _⟩ => ⟨S2097152, .i32⟩
  | .hbm, ⟨30, _⟩ => ⟨S2097152, .i16⟩
  | .local _ .vmem, ⟨0, _⟩ => ⟨S4096x8, .f32⟩
  | .local _ .vmem, ⟨1, _⟩ => ⟨S4096x8, .f32⟩
  | .local _ .vmem, ⟨2, _⟩ => ⟨S8x227, .bf16⟩
  | .local _ .vmem, ⟨3, _⟩ => ⟨S1x227, .f32⟩
  | .local _ .vmem, ⟨4, _⟩ => ⟨S227x227, .bf16⟩
  | .local _ .vmem, ⟨5, _⟩ => ⟨S227x9, .bf16⟩
  | .local _ .vmem, ⟨6, _⟩ => ⟨S8x1, .bf16⟩
  | .local _ .vmem, ⟨7, _⟩ => ⟨S4096x8, .f32⟩
  | .local _ .vmem, ⟨8, _⟩ => ⟨S4096x8, .f32⟩
  | .local _ .vmem, ⟨9, _⟩ => ⟨S1x1x4096, .i32⟩
  | .local _ .vmem, ⟨10, _⟩ => ⟨S1x1x4096, .i32⟩
  | _, _ => ⟨S2097152x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_cst : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x227 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x227 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S227x227 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S227x9 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x4096 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2097152x8 : Shape := ⟨2, ![2097152, 8]⟩
abbrev S227x8 : Shape := ⟨2, ![227, 8]⟩
abbrev S227 : Shape := ⟨1, ![227]⟩
abbrev S8 : Shape := ⟨1, ![8]⟩
abbrev S_ : Shape := ⟨0, ![]⟩
abbrev S1x8 : Shape := ⟨2, ![1, 8]⟩
abbrev S2097152 : Shape := ⟨1, ![2097152]⟩
abbrev S8x227 : Shape := ⟨2, ![8, 227]⟩
abbrev S2097152x227 : Shape := ⟨2, ![2097152, 227]⟩
abbrev S1x227 : Shape := ⟨2, ![1, 227]⟩
abbrev S2097152x1 : Shape := ⟨2, ![2097152, 1]⟩
abbrev S1 : Shape := ⟨1, ![1]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S2097152x8, .f32⟩
  | .hbm, ⟨1, _⟩ => ⟨S227x8, .f32⟩
  | .hbm, ⟨2, _⟩ => ⟨S227, .f32⟩
  | .hbm, ⟨3, _⟩ => ⟨S8, .i32⟩
  | .hbm, ⟨4, _⟩ => ⟨S_, .f32⟩
  | .hbm, ⟨5, _⟩ => ⟨S2097152x8, .f32⟩
  | .hbm, ⟨6, _⟩ => ⟨S2097152x8, .i1⟩
  | .hbm, ⟨7, _⟩ => ⟨S1x8, .i32⟩
  | .hbm, ⟨8, _⟩ => ⟨S2097152x8, .i32⟩
  | .hbm, ⟨9, _⟩ => ⟨S2097152x8, .i32⟩
  | .hbm, ⟨10, _⟩ => ⟨S2097152x8, .i32⟩
  | .hbm, ⟨11, _⟩ => ⟨S_, .i32⟩
  | .hbm, ⟨12, _⟩ => ⟨S2097152, .i32⟩
  | .hbm, ⟨13, _⟩ => ⟨S_, .i32⟩
  | .hbm, ⟨14, _⟩ => ⟨S2097152, .i32⟩
  | .hbm, ⟨15, _⟩ => ⟨S2097152, .i32⟩
  | .hbm, ⟨16, _⟩ => ⟨S2097152x8, .f32⟩
  | .hbm, ⟨17, _⟩ => ⟨S_, .f32⟩
  | .hbm, ⟨18, _⟩ => ⟨S2097152x8, .f32⟩
  | .hbm, ⟨19, _⟩ => ⟨S2097152x8, .f32⟩
  | .hbm, ⟨20, _⟩ => ⟨S_, .f32⟩
  | .hbm, ⟨21, _⟩ => ⟨S2097152x8, .f32⟩
  | .hbm, ⟨22, _⟩ => ⟨S2097152x8, .f32⟩
  | .hbm, ⟨23, _⟩ => ⟨S2097152x8, .f32⟩
  | .hbm, ⟨24, _⟩ => ⟨S8x227, .f32⟩
  | .hbm, ⟨25, _⟩ => ⟨S2097152x227, .f32⟩
  | .hbm, ⟨26, _⟩ => ⟨S_, .f32⟩
  | .hbm, ⟨27, _⟩ => ⟨S2097152x227, .f32⟩
  | .hbm, ⟨28, _⟩ => ⟨S2097152x227, .f32⟩
  | .hbm, ⟨29, _⟩ => ⟨S1x227, .f32⟩
  | .hbm, ⟨30, _⟩ => ⟨S2097152x227, .f32⟩
  | .hbm, ⟨31, _⟩ => ⟨S2097152x227, .f32⟩
  | .hbm, ⟨32, _⟩ => ⟨S2097152x227, .i32⟩
  | .hbm, ⟨33, _⟩ => ⟨S_, .f32⟩
  | .hbm, ⟨34, _⟩ => ⟨S_, .i32⟩
  | .hbm, ⟨35, _⟩ => ⟨S2097152, .f32⟩
  | .hbm, ⟨36, _⟩ => ⟨S2097152, .i32⟩
  | .hbm, ⟨37, _⟩ => ⟨S_, .i32⟩
  | .hbm, ⟨38, _⟩ => ⟨S2097152, .i32⟩
  | .hbm, ⟨39, _⟩ => ⟨S2097152, .i1⟩
  | .hbm, ⟨40, _⟩ => ⟨S_, .i32⟩
  | .hbm, ⟨41, _⟩ => ⟨S2097152, .i32⟩
  | .hbm, ⟨42, _⟩ => ⟨S2097152, .i32⟩
  | .hbm, ⟨43, _⟩ => ⟨S2097152, .i32⟩
  | .hbm, ⟨44, _⟩ => ⟨S2097152x1, .i32⟩
  | .hbm, ⟨45, _⟩ => ⟨S1, .i32⟩
  | .hbm, ⟨46, _⟩ => ⟨S_, .i32⟩
  | .hbm, ⟨47, _⟩ => ⟨S2097152x1, .i32⟩
  | .hbm, ⟨48, _⟩ => ⟨S2097152x1, .i1⟩
  | .hbm, ⟨49, _⟩ => ⟨S1x1, .i32⟩
  | .hbm, ⟨50, _⟩ => ⟨S2097152x1, .i32⟩
  | .hbm, ⟨51, _⟩ => ⟨S2097152x1, .i1⟩
  | .hbm, ⟨52, _⟩ => ⟨S2097152x1, .i1⟩
  | .hbm, ⟨53, _⟩ => ⟨S_, .i1⟩
  | .hbm, ⟨54, _⟩ => ⟨S2097152, .i1⟩
  | .hbm, ⟨55, _⟩ => ⟨S2097152x8, .f32⟩
  | .hbm, ⟨56, _⟩ => ⟨S2097152x8, .i1⟩
  | .hbm, ⟨57, _⟩ => ⟨S_, .f32⟩
  | .hbm, ⟨58, _⟩ => ⟨S2097152x8, .f32⟩
  | .hbm, ⟨59, _⟩ => ⟨S2097152x8, .f32⟩
  | .hbm, ⟨60, _⟩ => ⟨S2097152x8, .f32⟩
  | .hbm, ⟨61, _⟩ => ⟨S2097152, .i32⟩
  | .hbm, ⟨62, _⟩ => ⟨S_, .i32⟩
  | .hbm, ⟨63, _⟩ => ⟨S2097152, .i32⟩
  | .hbm, ⟨64, _⟩ => ⟨S2097152, .i32⟩
  | .hbm, ⟨65, _⟩ => ⟨S2097152, .i16⟩
  | _, _ => ⟨S2097152x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_cst : Ref sig .tc := ⟨.hbm, 33, rfl⟩
abbrev main_call0_c : Ref sig .tc := ⟨.hbm, 34, rfl⟩
abbrev main_call0_v1_0 : Ref sig .tc := ⟨.hbm, 35, rfl⟩
abbrev main_v22 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_c_4 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩

abbrev nD : Nat := 1
abbrev τ : Topo := Topo.v7x

variable {F : FTy → Type} [FloatOps F]
-- ==== Proof.First.lean ====
/-
  The first maximum of a finite row of extended reals, and the two ways the programs find it: by counting, up to each
  position, the elements equal to the maximum, and by a left fold over the (value, position) pairs.
-/
module

public import Idealize.ShloMosaic.PureOps.Ideal
public import Idealize.ShloMosaic.PureOps.Ideal.Laws

@[expose] public section

noncomputable section

namespace Cert.Proof.First

variable {n : ℕ}

/-- `j` is the first position at which `s` takes its maximum. -/
def IsFirst (s : Fin n → EReal) (j : Fin n) : Prop := (∀ k, s k ≤ s j) ∧ ∀ k, k < j → s k < s j

/-- There is at most one first maximum. -/
theorem IsFirst.unique {s : Fin n → EReal} {i j : Fin n} (hi : IsFirst s i) (hj : IsFirst s j) : i = j := by
  rcases lt_trichotomy i j with h | h | h
  · exact absurd (hi.1 j) (not_le.2 (hj.2 i h))
  · exact h
  · exact absurd (hj.1 i) (not_le.2 (hi.2 j h))

/-- A row with an element has a first maximum. -/
theorem exists_isFirst [NeZero n] (s : Fin n → EReal) : ∃ j, IsFirst s j := by
  obtain ⟨a, -, ha⟩ := Finset.exists_max_image Finset.univ s ⟨0, Finset.mem_univ _⟩
  have hne : (Finset.univ.filter fun k => s k = s a).Nonempty := ⟨a, by simp⟩
  have hm := Finset.min'_mem _ hne
  rw [Finset.mem_filter] at hm
  refine ⟨(Finset.univ.filter fun k => s k = s a).min' hne, fun k => ?_, fun k hk => ?_⟩
  · rw [hm.2]; exact ha k (Finset.mem_univ _)
  · rw [hm.2]
    refine lt_of_le_of_ne (ha k (Finset.mem_univ _)) fun e => ?_
    exact absurd (Finset.min'_le _ k (by simp [e])) (not_le.2 hk)

/-- The first position at which a row takes its maximum. -/
def first [NeZero n] (s : Fin n → EReal) : Fin n := (exists_isFirst s).choose

theorem first_isFirst [NeZero n] (s : Fin n → EReal) : IsFirst s (first s) := (exists_isFirst s).choose_spec

/-- The maximum of a row, folded from −∞, is the value at its first maximum. -/
theorem fold_max [NeZero n] (s : Fin n → EReal) : Finset.univ.fold max ⊥ s = s (first s) := by
  refine le_antisymm ?_ ?_
  · rw [Finset.fold_max_le]
    exact ⟨bot_le, fun k _ => (first_isFirst s).1 k⟩
  · rw [Finset.le_fold_max]
    exact Or.inr ⟨first s, Finset.mem_univ _, le_rfl⟩

/-- One where `p` holds and zero elsewhere. -/
def ind (p : Prop) [Decidable p] : EReal := if p then 1 else 0

/-- Counting, up to `j`, the elements equal to the maximum: an element equal to the maximum is the first such exactly
    when the count is one. -/
theorem mark_eq [NeZero n] (s : Fin n → EReal) (j : Fin n) :
    ind (s j = s (first s)) * ind ((∑ k, ind (s k = s (first s)) * ind (k ≤ j)) = 1) = ind (j = first s) := by
  have hf := first_isFirst s
  have hsum : (∑ k, ind (s k = s (first s)) * ind (k ≤ j))
      = (((Finset.univ.filter fun k => s k = s (first s) ∧ k ≤ j).card : ℕ) : EReal) := by
    rw [← Finset.sum_boole]
    refine Finset.sum_congr rfl fun k _ => ?_
    unfold ind
    by_cases h1 : s k = s (first s) <;> by_cases h2 : k ≤ j <;> simp [h1, h2]
  rw [hsum]
  have hone : ((((Finset.univ.filter fun k => s k = s (first s) ∧ k ≤ j).card : ℕ) : EReal) = 1)
      ↔ (Finset.univ.filter fun k => s k = s (first s) ∧ k ≤ j).card = 1 := by
    constructor
    · intro h; exact_mod_cast h
    · intro h; rw [h, Nat.cast_one]
  unfold ind
  by_cases h1 : s j = s (first s)
  · rw [if_pos h1, one_mul]
    by_cases h2 : j = first s
    · rw [if_pos h2, if_pos]
      rw [hone, Finset.card_eq_one]
      refine ⟨first s, ?_⟩
      ext k
      simp only [Finset.mem_filter, Finset.mem_univ, true_and, Finset.mem_singleton]
      constructor
      · rintro ⟨hk, hkj⟩
        rw [h2] at hkj
        rcases lt_or_eq_of_le hkj with hlt | heq
        · exact absurd hk (hf.2 k hlt).ne
        · exact heq
      · rintro rfl; exact ⟨rfl, h2.ge⟩
    · rw [if_neg h2, if_neg]
      rw [hone, Finset.card_eq_one]
      rintro ⟨a, ha⟩
      have hj : j ∈ ({a} : Finset (Fin n)) := by rw [← ha]; simp [h1]
      have hle : first s ≤ j := by
        by_contra hlt
        exact absurd h1 (hf.2 j (not_le.1 hlt)).ne
      have hfst : first s ∈ ({a} : Finset (Fin n)) := by rw [← ha]; simp [hle]
      rw [Finset.mem_singleton] at hj hfst
      exact h2 (hj.trans hfst.symm)
  · rw [if_neg h1, zero_mul, if_neg]
    rintro rfl; exact h1 rfl

/-- A sum weighted by the mark of one position is the term at that position, whatever the other terms are. -/
theorem sum_ind_mul (a : Fin n) (w : Fin n → EReal) : (∑ k, ind (k = a) * w k) = w a := by
  rw [Finset.sum_eq_single a]
  · simp [ind]
  · intro k _ hk; simp [ind, hk]
  · intro h; exact absurd (Finset.mem_univ _) h

/-- A finite factor that is not negative moves out of a sum of extended reals. -/
theorem mul_sum_of_nonneg {ι : Type} (t : Finset ι) (x : ℝ) (hx : 0 ≤ x) (f : ι → EReal) :
    (∑ k ∈ t, (x : EReal) * f k) = (x : EReal) * ∑ k ∈ t, f k := by
  classical
  induction t using Finset.induction_on with
  | empty => simp
  | insert a t ha ih =>
    rw [Finset.sum_insert ha, Finset.sum_insert ha, ih,
      EReal.left_distrib_of_nonneg_of_ne_top (EReal.coe_nonneg.2 hx) (EReal.coe_ne_top x)]

/-- What is kept, by an arg-max's left fold, of the pairs met: one of them or the initial one, no value above it, and
    no smaller position at the same value. -/
structure Kept {β : Type} (pos : β → ℤ) (seen : List (EReal × β)) (init p : EReal × β) : Prop where
  mem : p = init ∨ p ∈ seen
  ge : ∀ q ∈ seen, q.1 ≤ p.1
  low : ∀ q ∈ seen, q.1 = p.1 → pos p.2 ≤ pos q.2
  ge_init : init.1 ≤ p.1
  low_init : init.1 = p.1 → pos p.2 ≤ pos init.2

/-- A step that keeps the greater value, and the smaller position on equal values, keeps `Kept`. -/
theorem Kept.foldl {β : Type} (pos : β → ℤ) (f : EReal × β → EReal × β → EReal × β)
    (hf : ∀ a b, f a b = if b.1 < a.1 ∨ (a.1 = b.1 ∧ pos a.2 < pos b.2) then a else b)
    (init : EReal × β) (l : List (EReal × β)) : ∀ (seen : List (EReal × β)) (p : EReal × β), Kept pos seen init p →
      Kept pos (seen ++ l) init (l.foldl f p) := by
  induction l with
  | nil => intro seen p h; simpa using h
  | cons b l ih =>
    intro seen p h
    rw [List.foldl_cons, List.append_cons]
    refine ih (seen ++ [b]) (f p b) ?_
    rw [hf]
    by_cases hc : b.1 < p.1 ∨ (p.1 = b.1 ∧ pos p.2 < pos b.2)
    · rw [if_pos hc]
      refine ⟨h.mem.imp id fun hm => List.mem_append_left _ hm, fun q hq => ?_, fun q hq he => ?_, h.ge_init, h.low_init⟩
      · rcases List.mem_append.1 hq with hq | hq
        · exact h.ge q hq
        · rw [List.mem_singleton.1 hq]
          rcases hc with hc | hc
          · exact hc.le
          · exact hc.1.ge
      · rcases List.mem_append.1 hq with hq | hq
        · exact h.low q hq he
        · rw [List.mem_singleton.1 hq] at he ⊢
          rcases hc with hc | hc
          · exact absurd he hc.ne
          · exact hc.2.le
    · rw [if_neg hc]
      have hpb : p.1 ≤ b.1 := not_lt.1 fun hlt => hc (Or.inl hlt)
      have hlow : p.1 = b.1 → pos b.2 ≤ pos p.2 := fun e => not_lt.1 fun hlt => hc (Or.inr ⟨e, hlt⟩)
      refine ⟨Or.inr (List.mem_append_right _ (List.mem_singleton.2 rfl)), fun q hq => ?_, fun q hq he => ?_,
        h.ge_init.trans hpb, fun he => ?_⟩
      · rcases List.mem_append.1 hq with hq | hq
        · exact (h.ge q hq).trans hpb
        · rw [List.mem_singleton.1 hq]
      · rcases List.mem_append.1 hq with hq | hq
        · have hqp : q.1 = p.1 := le_antisymm (h.ge q hq) (he ▸ hpb)
          exact (hlow (hqp ▸ he)).trans (h.low q hq hqp)
        · rw [List.mem_singleton.1 hq]
      · have hip : init.1 = p.1 := le_antisymm h.ge_init (he ▸ hpb)
        exact (hlow (hip ▸ he)).trans (h.low_init hip)

/-- The fold, from (−∞, position zero), over a list that holds the pairs (value, position) of a row and no other ends
    at the first maximum's position. -/
theorem foldl_pos [NeZero n] {β : Type} (pos : β → ℤ) (f : EReal × β → EReal × β → EReal × β)
    (hf : ∀ a b, f a b = if b.1 < a.1 ∨ (a.1 = b.1 ∧ pos a.2 < pos b.2) then a else b)
    (s : Fin n → EReal) (num : Fin n → β) (hnum : ∀ k, pos (num k) = (k.val : ℤ))
    (l : List (EReal × β)) (hl : ∀ q, q ∈ l ↔ ∃ k, q = (s k, num k)) :
    (l.foldl f (⊥, num 0)).2 = num (first s) := by
  have h := Kept.foldl pos f hf (⊥, num 0) l [] (⊥, num 0)
    ⟨Or.inl rfl, (fun _ h => nomatch h), (fun _ h => nomatch h), le_rfl, fun _ => le_rfl⟩
  rw [List.nil_append] at h
  set p := l.foldl f (⊥, num 0) with hp
  have hpair : ∃ k, p.2 = num k ∧ p.1 = s k := by
    rcases h.mem with e | hm
    · refine ⟨0, by rw [e], ?_⟩
      have h0 := h.ge _ ((hl (s 0, num 0)).2 ⟨0, rfl⟩)
      rw [e] at h0 ⊢
      exact (le_bot_iff.1 h0).symm
    · obtain ⟨k, hk⟩ := (hl p).1 hm
      exact ⟨k, by rw [hk], by rw [hk]⟩
  obtain ⟨k, hk2, hk1⟩ := hpair
  have hfirst : IsFirst s k := by
    refine ⟨fun i => ?_, fun i hi => ?_⟩
    · rw [← hk1]; exact h.ge _ ((hl (s i, num i)).2 ⟨i, rfl⟩)
    · refine lt_of_le_of_ne (by rw [← hk1]; exact h.ge _ ((hl (s i, num i)).2 ⟨i, rfl⟩)) fun e => ?_
      have hlow := h.low _ ((hl (s i, num i)).2 ⟨i, rfl⟩) (by rw [hk1]; exact e)
      rw [hk2, hnum, hnum] at hlow
      have : k.val ≤ i.val := by exact_mod_cast hlow
      exact absurd hi (not_lt.2 this)
  rw [hk2, hfirst.unique (first_isFirst s)]

end Cert.Proof.First

end
-- ==== Proof.Row.lean ====
/-
  What is computed for one row of eight numbers, given the table of 227 codewords, its norms and the map of index
  words: the score of each codeword, the first codeword of maximal score, that codeword with the row's signs, and the
  packed index.
-/
module

public import proofs.«01_k».proof.Proof.First

@[expose] public section

noncomputable section

namespace Cert.Proof.Row

open Cert.Proof.First Idealize.ShloMosaic

/-- The score of codeword `k`: twice the inner product with the magnitudes of the row, less the codeword's norm. -/
def score (x : Fin 8 → EReal) (g : Fin 227 → Fin 8 → EReal) (n : Fin 227 → EReal) (k : Fin 227) : EReal :=
  2 * (∑ c, max (x c) (-x c) * g k c) - n k

/-- The first codeword of maximal score. -/
def pick (x : Fin 8 → EReal) (g : Fin 227 → Fin 8 → EReal) (n : Fin 227 → EReal) : Fin 227 := first (score x g n)

/-- The sign of a number, 1 for zero. -/
def sign (a : EReal) : EReal := if a < 0 then -1 else 1

/-- The chosen codeword's entry with the row's sign. -/
def val (x : Fin 8 → EReal) (g : Fin 227 → Fin 8 → EReal) (n : Fin 227 → EReal) (c : Fin 8) : EReal :=
  g (pick x g n) c * sign (x c)

/-- The sum of the map's words, as integers, at the negative entries of the row. -/
def signSum (x : Fin 8 → EReal) (im : Fin 8 → BitVec 32) : ℤ := ∑ c, if x c < 0 then (im c).toInt else 0

/-- The packed index before its 32768 offset is dropped to 16 bits: 256 · signSum + pick − 32768. -/
def index (x : Fin 8 → EReal) (g : Fin 227 → Fin 8 → EReal) (n : Fin 227 → EReal) (im : Fin 8 → BitVec 32) : ℤ :=
  signSum x im * 256 + (pick x g n).val - 32768

/-- Eight integers of magnitude at most 2¹⁹ sum to one of magnitude at most 2²². -/
theorem sum_bound (f : Fin 8 → ℤ) (h : ∀ c, -524288 ≤ f c ∧ f c ≤ 524288) :
    -4194304 ≤ ∑ c, f c ∧ ∑ c, f c ≤ 4194304 := by
  rw [Fin.sum_univ_eight]
  have := h 0; have := h 1; have := h 2; have := h 3; have := h 4; have := h 5; have := h 6; have := h 7
  omega

/-- With words of magnitude at most 2¹⁹ the sum stays within 2²². -/
theorem signSum_bound (x : Fin 8 → EReal) (im : Fin 8 → BitVec 32) (h : ∀ c, -524288 ≤ (im c).toInt ∧ (im c).toInt ≤ 524288) :
    -4194304 ≤ signSum x im ∧ signSum x im ≤ 4194304 :=
  sum_bound _ fun c => by
    split
    · exact h c
    · omega

/-- With words of magnitude at most 2¹⁹ the packed index is a 32-bit integer. -/
theorem index_bound (x : Fin 8 → EReal) (g : Fin 227 → Fin 8 → EReal) (n : Fin 227 → EReal) (im : Fin 8 → BitVec 32)
    (h : ∀ c, -524288 ≤ (im c).toInt ∧ (im c).toInt ≤ 524288) :
    -2147483648 ≤ index x g n im ∧ index x g n im ≤ 2147483647 := by
  have hb := signSum_bound x im h
  have hp := (pick x g n).isLt
  unfold index
  omega

end Cert.Proof.Row

end
-- ==== Proof.Words.lean ====
/-
  The packed index as a 32-bit word: the kernel computes it in extended reals and converts, the reference computes it
  in words. While no integer on the way leaves the words' range the two are the same word.
-/
module

public import Idealize.ShloMosaic.PureOps.Ideal
public import Idealize.ShloMosaic.PureOps.Reduce

@[expose] public section

noncomputable section

namespace Cert.Proof.Words

open Idealize.ShloMosaic

/-- The conversion of an integer in the words' range is that integer's word. -/
theorem fptosi_intCast (z : ℤ) (hlo : -2147483648 ≤ z) (hhi : z ≤ 2147483647) :
    Ideal.fptosi 32 (((z : ℤ) : ℝ) : EReal) = BitVec.ofInt 32 z := by
  unfold Ideal.fptosi
  rw [Ideal.toIntClamped_coe, Int.floor_intCast, Int.ceil_intCast, ite_self]
  congr 1
  norm_num
  omega

/-- A sum of integers, each a real, is the integer sum as a real. -/
theorem sum_intCast {ι : Type} (t : Finset ι) (f : ι → ℤ) :
    (∑ k ∈ t, (((f k : ℤ) : ℝ) : EReal)) = (((∑ k ∈ t, f k : ℤ) : ℝ) : EReal) := by
  classical
  induction t using Finset.induction_on with
  | empty => simp
  | insert a t ha ih => rw [Finset.sum_insert ha, Finset.sum_insert ha, ih]; push_cast; rfl

/-- A sum of words is the word of the sum of the integers they are the words of. -/
theorem fold_ofInt {ι : Type} (t : Finset ι) (f : ι → ℤ) :
    t.fold IntOp.addi 0#32 (fun k => BitVec.ofInt 32 (f k)) = BitVec.ofInt 32 (∑ k ∈ t, f k) := by
  classical
  induction t using Finset.induction_on with
  | empty => simp
  | insert a t ha ih => rw [Finset.fold_insert ha, Finset.sum_insert ha, ih, BitVec.ofInt_add]; rfl

/-- The packed index in extended reals: 256 · z + q − 32768 of integers is that integer. -/
theorem pack_real (z : ℤ) (q : ℕ) :
    (((z : ℤ) : ℝ) : EReal) * ((256 : ℝ) : EReal) + (((q : ℕ) : ℝ) : EReal) - ((32768 : ℝ) : EReal)
      = (((z * 256 + q - 32768 : ℤ) : ℝ) : EReal) := by
  rw [← EReal.coe_mul, ← EReal.coe_add, ← EReal.coe_sub]
  push_cast
  rfl

/-- The packed index in words: the sum's word moved up by eight bits, plus the position, plus the word of −32768. -/
theorem pack_word (z : ℤ) (q : ℕ) :
    (BitVec.ofInt 32 z <<< (8 : ℕ)) + BitVec.ofNat 32 q + 4294934528#32 = BitVec.ofInt 32 (z * 256 + q - 32768) := by
  have h1 : BitVec.ofInt 32 z <<< (8 : ℕ) = BitVec.ofInt 32 (z * 256) := by
    rw [BitVec.shiftLeft_eq_mul_twoPow, BitVec.ofInt_mul]
    congr 1
  have h2 : (4294934528#32 : BitVec 32) = BitVec.ofInt 32 (-32768) := by decide
  have h3 : BitVec.ofNat 32 q = BitVec.ofInt 32 (q : ℤ) := (BitVec.ofInt_natCast ..).symm
  rw [h1, h2, h3, ← BitVec.ofInt_add, ← BitVec.ofInt_add]
  congr 1

end Cert.Proof.Words

end
-- ==== Proof.Block.lean ====
/-
  What one block computes, row by row: the two stored values of the kernel's body at an index, as the row's value and
  the row's packed index, for a block whose tables are the doubled codewords, the norms, the upper triangle of ones,
  the codewords with their numbers beside them, and the map's words as reals.
-/
module

public import proofs.«01_k».proof.Proof.Gen.KernelIdeal.Skeleton
public import proofs.«01_k».proof.Proof.Row
public import proofs.«01_k».proof.Proof.Words
public import Idealize.ShloMosaic.Lib.Pointwise

@[expose] public section

noncomputable section

namespace Cert.Proof.Block

open Cert.KernelIdeal Cert.KernelIdeal.Gen Idealize.ShloMosaic Idealize.ShloMosaic.Pointwise
open Cert.Proof.First Cert.Proof.Row

/-- A comparison's bit, widened to a word and read as a real, is one where the comparison holds and zero elsewhere. -/
theorem sitofp_bit (p : Prop) [Decidable p] :
    (FloatOps.sitofp (F := Ideal) .f32 (BitVec.setWidth 32 (BitVec.ofBool (decide p))) : EReal) = ind p := by
  show (((BitVec.setWidth 32 (BitVec.ofBool (decide p))).toInt : ℝ) : EReal) = _
  unfold ind
  by_cases h : p
  · have e : (BitVec.setWidth 32 (BitVec.ofBool (decide p))).toInt = 1 := by simp [h]
    rw [e, if_pos h]; norm_num
  · have e : (BitVec.setWidth 32 (BitVec.ofBool (decide p))).toInt = 0 := by simp [h]
    rw [e, if_neg h]; norm_num

/-- The word 0xFF800000 is −∞. -/
theorem ofBits_bot : Ideal.ofBits .f32 4286578688#32 = ⊥ := by
  simp [Ideal.ofBits, Ideal.ieee]

/-- The word 0xBF800000 is −1. -/
theorem ofBits_neg_one : Ideal.ofBits .f32 3212836864#32 = -1 := by
  simp [Ideal.ofBits, Ideal.ieee, -EReal.coe_mul]; norm_num

/-- The word 0x43800000 is 256. -/
theorem ofBits_256 : Ideal.ofBits .f32 1132462080#32 = ((256 : ℝ) : EReal) := by
  simp [Ideal.ofBits, Ideal.ieee, -EReal.coe_mul]; norm_num

/-- The word 0x47000000 is 32768. -/
theorem ofBits_32768 : Ideal.ofBits .f32 1191182336#32 = ((32768 : ℝ) : EReal) := by
  simp [Ideal.ofBits, Ideal.ieee, -EReal.coe_mul]; norm_num

section
variable (v0 : Vec Ideal S4096x8 .f32) (v5 : Vec Ideal S8x227 .bf16) (v8 : Vec Ideal S1x227 .f32)
  (v19 : Vec Ideal S227x227 .bf16) (v28 : Vec Ideal S227x9 .bf16) (v41 : Vec Ideal S8x1 .bf16)
  (g : Fin 227 → Fin 8 → EReal) (n : Fin 227 → EReal) (w : Fin 227 → Fin 9 → EReal) (im : Fin 8 → BitVec 32)

/-- The inner product with a doubled codeword, less the norm, is the score. -/
theorem score_eq (h5 : ∀ c k, v5 (ix2 c k) = 2 * g k c) (h8 : ∀ k, v8 (ix2 0 k) = n k) (p : Fin 4096) (k : Fin 227) :
    (∑ c : Fin 8, FloatOps.absf (F := Ideal) (φ := .f32) (v0 (ix2 p c)) * v5 (ix2 c k) : EReal) - v8 (ix2 0 k)
      = score (fun c => v0 (ix2 p c)) g n k := by
  have e : (∑ c : Fin 8, FloatOps.absf (F := Ideal) (φ := .f32) (v0 (ix2 p c)) * v5 (ix2 c k) : EReal)
      = ∑ c : Fin 8, ((2 : ℝ) : EReal) * (max (v0 (ix2 p c)) (-v0 (ix2 p c)) * g k c) := by
    refine Finset.sum_congr rfl fun c _ => ?_
    rw [h5]
    exact mul_left_comm (a := max (v0 (ix2 p c)) (-v0 (ix2 p c))) (b := (2 : EReal)) (c := g k c)
  rw [e, mul_sum_of_nonneg _ _ (by norm_num), h8]
  rfl

/-- The product of the row of marks with the wide table is the wide table's row at the first maximum. -/
theorem pay3_apply (h5 : ∀ c k, v5 (ix2 c k) = 2 * g k c) (h8 : ∀ k, v8 (ix2 0 k) = n k)
    (h19 : ∀ i j, v19 (ix2 i j) = ind (i ≤ j)) (h28 : ∀ k c, v28 (ix2 k c) = w k c) (p : Fin 4096) (c : Fin 9) :
    k0_pay3 v0 v5 v8 v19 v28 (ix2 p c) = w (pick (fun c => v0 (ix2 p c)) g n) c := by
  pointwise [k0_pay3]
  simp only [score_eq v0 v5 v8 g n h5 h8 p, ofBits_bot, fold_max, sitofp_bit, h19, h28]
  rw [← sum_ind_mul (pick (fun c => v0 (ix2 p c)) g n) fun k => w k c]
  refine Finset.sum_congr rfl fun k _ => ?_
  exact congrArg (· * w k c) (mark_eq (score (fun c => v0 (ix2 p c)) g n) k)

/-- The first stored value at an index: the chosen codeword's entry with the row's sign. -/
theorem pay5_apply (h5 : ∀ c k, v5 (ix2 c k) = 2 * g k c) (h8 : ∀ k, v8 (ix2 0 k) = n k)
    (h19 : ∀ i j, v19 (ix2 i j) = ind (i ≤ j)) (h28 : ∀ k c, v28 (ix2 k c) = w k c)
    (hw : ∀ k (c : Fin 8), w k c.castSucc = g k c) (p : Fin 4096) (c : Fin 8) :
    k0_pay5 v0 v5 v8 v19 v28 (ix2 p c) = val (fun c => v0 (ix2 p c)) g n c := by
  pointwise [k0_pay5, k0_pay2]
  rw [pay3_apply v0 v5 v8 v19 v28 g n w h5 h8 h19 h28, ofBits_neg_one]
  exact congrArg (· * sign (v0 (ix2 p c))) (hw _ c)

/-- The second stored value at an index: the packed index's word. -/
theorem pay1_apply (h5 : ∀ c k, v5 (ix2 c k) = 2 * g k c) (h8 : ∀ k, v8 (ix2 0 k) = n k)
    (h19 : ∀ i j, v19 (ix2 i j) = ind (i ≤ j)) (h28 : ∀ k c, v28 (ix2 k c) = w k c)
    (hw : ∀ k, w k (Fin.last 8) = (((k.val : ℕ) : ℝ) : EReal))
    (h41 : ∀ c, v41 (ix2 c 0) = (((im c).toInt : ℝ) : EReal))
    (him : ∀ c, -524288 ≤ (im c).toInt ∧ (im c).toInt ≤ 524288) (p : Fin 4096) :
    k0_pay1 (k0_pay2 v0) (k0_pay4 v0 v5 v8 v19 v28) v41 (ix3 0 0 p)
      = BitVec.ofInt 32 (index (fun c => v0 (ix2 p c)) g n im) := by
  have h4 : k0_pay4 v0 v5 v8 v19 v28 (ix2 p 0)
      = ((((pick (fun c => v0 (ix2 p c)) g n).val : ℕ) : ℝ) : EReal) := by
    pointwise [k0_pay4]
    rw [pay3_apply v0 v5 v8 v19 v28 g n w h5 h8 h19 h28]
    exact hw _
  have hs : (∑ c : Fin 8, ind (v0 (ix2 p c) < 0) * v41 (ix2 c 0) : EReal)
      = (((signSum (fun c => v0 (ix2 p c)) im : ℤ) : ℝ) : EReal) := by
    rw [signSum, ← Words.sum_intCast]
    refine Finset.sum_congr rfl fun c _ => ?_
    rw [h41]
    unfold ind
    by_cases h : v0 (ix2 p c) < 0 <;> simp [h]
  pointwise [k0_pay1, k0_pay2]
  simp only [sitofp_bit]
  rw [hs, h4, ofBits_256, ofBits_32768, Words.pack_real]
  exact Words.fptosi_intCast _ (index_bound _ g n im him).1 (index_bound _ g n im him).2

end

end Cert.Proof.Block

end
-- ==== Proof.Tables.lean ====
/-
  What the region finds: the tables that the host operations before it compute from the arguments, at an index, and
  each input window's block as the part of its array that it is.
-/
module

public import proofs.«01_k».proof.Proof.Gen.KernelIdeal.Frame
public import proofs.«01_k».proof.Proof.First
public import Idealize.ShloMosaic.Lib.Pipeline.ValueKit
public import Idealize.ShloMosaic.Lib.StableHlo.Predicate

@[expose] public section

set_option maxRecDepth 16384

noncomputable section

namespace Cert.Proof.Tables

open Cert.KernelIdeal Cert.KernelIdeal.Gen Cert.Proof.First
open Idealize.ShloMosaic Idealize.ShloMosaic.Pointwise Idealize.ShloMosaic.TcCoe Idealize.SL.Sem
open Idealize.ShloMosaic.Pipeline

variable (m : (ℓ : Loc nD τ sig) → Buf (Elt Ideal) ℓ) (c : Dev nD)

/-- The word 0x40000000 is 2. -/
theorem ofBits_two : Ideal.ofBits .f32 1073741824#32 = 2 := by
  simp [Ideal.ofBits, Ideal.ieee, -EReal.coe_mul]; norm_num; rfl

/-- The doubled codewords, transposed. -/
theorem v3_apply (a : Fin 8) (k : Fin 227) : (V m c main_v3 : FVec Ideal S8x227 .bf16) (ix2 a k)
    = (2 : EReal) * (show EReal from (m ((c : Thread nD τ).loc main_arg1) : FVec Ideal S227x8 .f32) (ix2 k a)) := by
  entry_read
  simp only [hostOps0, hostOps0_1, hostOps0_2, List.flatten_cons, List.flatten_nil, List.append_nil, List.cons_append,
    List.nil_append]
  after_results
  pointwise
  rw [ofBits_two]

/-- The codewords' norms as a row. -/
theorem v4_apply (k : Fin 227) : (V m c main_v4 : FVec Ideal S1x227 .f32) (ix2 0 k)
    = (m ((c : Thread nD τ).loc main_arg2) : FVec Ideal S227 .f32) (ix1 k) := by
  entry_read
  simp only [hostOps0, hostOps0_1, hostOps0_2, List.flatten_cons, List.flatten_nil, List.append_nil, List.cons_append,
    List.nil_append]
  after_results
  pointwise

/-- One less than a row number, as a word, is at least a column number exactly where the row is after the column. -/
theorem sge_word (a k : Fin 227) :
    Scalar.select (IntOp.cmpi .sge (IntOp.addi (BitVec.ofNat 32 a.val) 4294967295#32) (BitVec.ofNat 32 k.val)) (0 : EReal) 1
      = ind (a ≤ k) := by
  have ha := a.isLt
  have hk := k.isLt
  have e1 : (BitVec.ofNat 32 a.val + 4294967295#32).toInt = (a.val : ℤ) - 1 := by
    rw [show BitVec.ofNat 32 a.val + 4294967295#32 = BitVec.ofInt 32 ((a.val : ℤ) + (-1)) from by
      rw [BitVec.ofInt_add, BitVec.ofInt_natCast]; rfl, BitVec.toInt_ofInt, Int.bmod_eq_of_le] <;> omega
  have e2 : (BitVec.ofNat 32 k.val).toInt = (k.val : ℤ) := StableHlo.Predicate.toInt_ofNat_small _ (by omega)
  have e3 : IntOp.cmpi .sge (IntOp.addi (BitVec.ofNat 32 a.val) 4294967295#32) (BitVec.ofNat 32 k.val)
      = BitVec.ofBool (decide (k < a)) := by
    show BitVec.ofBool ((BitVec.ofNat 32 k.val).sle (BitVec.ofNat 32 a.val + 4294967295#32)) = _
    unfold BitVec.sle
    rw [e1, e2]
    refine congrArg BitVec.ofBool (decide_eq_decide.2 ?_)
    rw [Fin.lt_def]
    omega
  rw [e3]
  unfold ind Scalar.select
  by_cases h : k < a
  · rw [if_neg (not_le.2 h)]; simp [h]
  · rw [if_pos (not_lt.1 h)]; simp [h]

/-- The upper triangle of ones. -/
theorem v6_apply (a k : Fin 227) : (V m c main_v6 : FVec Ideal S227x227 .bf16) (ix2 a k) = ind (a ≤ k) := by
  have e : (V m c main_v6 : FVec Ideal S227x227 .bf16)
      = select (cmpi .sge (addi (iotaInDim S227x227 32 0) (broadcastInDim S227x227 ![] bcast_S_S227x227 (constantI S_ 32 4294967295#32)))
          (iotaInDim S227x227 32 1))
        (broadcastInDim S227x227 ![] bcast_S_S227x227 (constant (F := Ideal) S_ .bf16 0#16))
        (broadcastInDim S227x227 ![] bcast_S_S227x227 (constant (F := Ideal) S_ .bf16 16256#16)) := by
    unfold V V0
    simp only [hostOps0, hostOps0_1, hostOps0_2, List.flatten_cons, List.flatten_nil, List.append_nil, List.cons_append,
      List.nil_append, StableHlo.TRef.nullary, StableHlo.TRef.unary, StableHlo.TRef.binary, StableHlo.TRef.ternary,
      StableHlo.TRef.toBuf, StableHlo.TRef.ofBuf, cast_eq]
    after_results
  rw [e]
  pointwise
  exact sge_word a k

/-- The codewords, with their numbers as a ninth column. -/
theorem v10_apply (a : Fin 227) (k : Fin 9) : (V m c main_v10 : FVec Ideal S227x9 .bf16) (ix2 a k)
    = if h : k.val < 8 then (m ((c : Thread nD τ).loc main_arg1) : FVec Ideal S227x8 .f32) (ix2 a ⟨k.val, h⟩)
      else (((a.val : ℕ) : ℝ) : EReal) := by
  have hw : (FloatOps.sitofp (F := Ideal) .f32 (BitVec.ofNat 32 a.val) : EReal) = (((a.val : ℕ) : ℝ) : EReal) := by
    show (((BitVec.ofNat 32 a.val).toInt : ℝ) : EReal) = _
    have e : (BitVec.ofNat 32 a.val).toInt = (a.val : ℤ) :=
      StableHlo.Predicate.toInt_ofNat_small _ (by have := a.isLt; omega)
    rw [e, Int.cast_natCast]
  rw [← hw]
  entry_read
  simp only [hostOps0, hostOps0_1, hostOps0_2, List.flatten_cons, List.flatten_nil, List.append_nil, List.cons_append,
    List.nil_append]
  after_results
  pointwise

/-- The map's words, as reals, in a column. -/
theorem v12_apply (k : Fin 8) : (V m c main_v12 : FVec Ideal S8x1 .bf16) (ix2 k 0)
    = ((((m ((c : Thread nD τ).loc main_arg3) : IVec S8 32) (ix1 k)).toInt : ℝ) : EReal) := by
  entry_read
  simp only [hostOps0, hostOps0_1, hostOps0_2, List.flatten_cons, List.flatten_nil, List.append_nil, List.cons_append,
    List.nil_append]
  after_results
  pointwise
  rfl

/-- The windows' block numbers at each point: the row blocks are counted by the point, the tables are whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0, 0] := by decide +kernel

/-- Row `a` of block `t` is row `4096 · t + a` of the first argument. -/
theorem blk0 (t : Fin cfg0.N) (a : Fin 4096) (k : Fin 8) (r : Fin 2097152) (h : r.val = t.val * 4096 + a.val) :
    (iblk m c 0 t : FVec Ideal S4096x8 .f32) (ix2 a k)
      = (m ((c : Thread nD τ).loc main_arg0) : FVec Ideal S2097152x8 .f32) (ix2 r k) := by
  rw [← V_main_arg0 m c]
  blk_ext [iblk, idx t]

/-- Each other input window's block is its whole array. -/
theorem blk1 (t : Fin cfg0.N) (a : Fin 8) (k : Fin 227) :
    (iblk m c 1 t : FVec Ideal S8x227 .bf16) (ix2 a k) = (V m c main_v3 : FVec Ideal S8x227 .bf16) (ix2 a k) := by
  blk_ext [iblk, idx t]

theorem blk2 (t : Fin cfg0.N) (k : Fin 227) :
    (iblk m c 2 t : FVec Ideal S1x227 .f32) (ix2 0 k) = (V m c main_v4 : FVec Ideal S1x227 .f32) (ix2 0 k) := by
  blk_ext [iblk, idx t]

theorem blk3 (t : Fin cfg0.N) (a k : Fin 227) (X : FVec Ideal S227x227 .bf16)
    (hX : V m c (Pipeline.arrRef spec0 3) = X) : (iblk m c 3 t : FVec Ideal S227x227 .bf16) (ix2 a k) = X (ix2 a k) := by
  unfold iblk
  rw [hX]
  blk_ext [idx t]

theorem blk4 (t : Fin cfg0.N) (a : Fin 227) (k : Fin 9) :
    (iblk m c 4 t : FVec Ideal S227x9 .bf16) (ix2 a k) = (V m c main_v10 : FVec Ideal S227x9 .bf16) (ix2 a k) := by
  blk_ext [iblk, idx t]

theorem blk5 (t : Fin cfg0.N) (a : Fin 8) :
    (iblk m c 5 t : FVec Ideal S8x1 .bf16) (ix2 a 0) = (V m c main_v12 : FVec Ideal S8x1 .bf16) (ix2 a 0) := by
  blk_ext [iblk, idx t]

end Cert.Proof.Tables

end
-- ==== Proof.Results.lean ====
/-
  The two results as arrays, row by row, from the four arguments as arrays.
-/
module

public import proofs.«01_k».proof.Proof.Row
public import Idealize.ShloMosaic.Lib.Pointwise

@[expose] public section

noncomputable section

namespace Cert.Proof.Results

open Cert.Proof.Row Idealize.ShloMosaic Idealize.ShloMosaic.Pointwise

/-- Row `r` of the first argument. -/
def row (X : FVec Ideal ⟨2, ![2097152, 8]⟩ .f32) (r : Fin 2097152) : Fin 8 → EReal := fun c => X (ix2 r c)

/-- The codewords, by number and coordinate. -/
def table (g : FVec Ideal ⟨2, ![227, 8]⟩ .f32) : Fin 227 → Fin 8 → EReal := fun k c => g (ix2 k c)

/-- The codewords' norms, by number. -/
def norms (n : FVec Ideal ⟨1, ![227]⟩ .f32) : Fin 227 → EReal := fun k => n (ix1 k)

/-- The map's words. -/
def words (im : IVec ⟨1, ![8]⟩ 32) : Fin 8 → BitVec 32 := fun c => im (ix1 c)

/-- The first result, row by row. -/
def vals (X : FVec Ideal ⟨2, ![2097152, 8]⟩ .f32) (g : FVec Ideal ⟨2, ![227, 8]⟩ .f32) (n : FVec Ideal ⟨1, ![227]⟩ .f32) :
    FVec Ideal ⟨2, ![2097152, 8]⟩ .f32 := fun i => val (row X (i 0)) (table g) (norms n) (i 1)

/-- The packed indices, row by row, as 32-bit words. -/
def indices (X : FVec Ideal ⟨2, ![2097152, 8]⟩ .f32) (g : FVec Ideal ⟨2, ![227, 8]⟩ .f32) (n : FVec Ideal ⟨1, ![227]⟩ .f32) (im : IVec ⟨1, ![8]⟩ 32) :
    IVec ⟨1, ![2097152]⟩ 32 := fun j => BitVec.ofInt 32 (index (row X (j 0)) (table g) (norms n) (words im))

end Cert.Proof.Results

end
-- ==== Proof.Arrays.lean ====
/-
  What the two output arrays hold after the run: row by row, the row's value and the row's packed index.
-/
module

public import proofs.«01_k».proof.Proof.Block
public import proofs.«01_k».proof.Proof.Tables
public import proofs.«01_k».proof.Proof.Results

@[expose] public section

set_option maxRecDepth 16384

noncomputable section

namespace Cert.Proof.Arrays

open Cert.KernelIdeal Cert.KernelIdeal.Gen Cert.Proof.First Cert.Proof.Row Cert.Proof.Results Cert.Proof.Block Cert.Proof.Tables
open Idealize.ShloMosaic Idealize.ShloMosaic.Pointwise Idealize.ShloMosaic.TcCoe Idealize.SL.Sem
open Idealize.ShloMosaic.Pipeline

variable (m : (ℓ : Loc nD τ sig) → Buf (Elt Ideal) ℓ) (c : Dev nD)

/-- The arguments at core `c`. -/
abbrev argX : FVec Ideal S2097152x8 .f32 := m ((c : Thread nD τ).loc main_arg0)
abbrev argG : FVec Ideal S227x8 .f32 := m ((c : Thread nD τ).loc main_arg1)
abbrev argN : FVec Ideal S227 .f32 := m ((c : Thread nD τ).loc main_arg2)
abbrev argI : IVec S8 32 := m ((c : Thread nD τ).loc main_arg3)

/-- The wide table: the codewords and their numbers. -/
def wide (k : Fin 227) (a : Fin 9) : EReal :=
  if h : a.val < 8 then argG m c (ix2 k ⟨a.val, h⟩) else (((k.val : ℕ) : ℝ) : EReal)

theorem wide_castSucc (k : Fin 227) (a : Fin 8) : wide m c k a.castSucc = table (argG m c) k a := by
  unfold wide table
  rw [dif_pos (show (a.castSucc).val < 8 from a.isLt)]
  rfl

theorem wide_last (k : Fin 227) : wide m c k (Fin.last 8) = (((k.val : ℕ) : ℝ) : EReal) := by
  unfold wide
  rw [dif_neg (by decide)]

/-- Row `a` of block `t`, as a row of the first argument. -/
theorem blkRow (t : Fin cfg0.N) (a : Fin 4096) (r : Fin 2097152) (h : r.val = t.val * 4096 + a.val) :
    (fun k => (iblk m c 0 t : FVec Ideal S4096x8 .f32) (ix2 a k)) = row (argX m c) r :=
  funext fun k => blk0 m c t a k r h

/-- The grid has 512 points. -/
theorem point_lt (t : Fin cfg0.N) : t.val < 512 := lt_of_lt_of_eq t.isLt N_0

/-- An index of the second output array names a row of the first argument. -/
theorem row_lt (i : S512x1x4096.Idx) : (i 0).val * 4096 + (i 2).val < 2097152 := by
  have h0 : (i 0).val < 512 := (i 0).isLt
  have h2 : (i 2).val < 4096 := (i 2).isLt
  omega

/-- The first output array after the run. -/
theorem array6 : (dats m 0 c).arrAt 6 (cfgs 0).N = vals (argX m c) (argG m c) (argN m c) := by
  refine (dats m 0 c).arrAt_eq_of_covers 6 _ (by decide +kernel) fun t hf y => ?_
  blk_simp
  rw [after0_6]
  frame_out
  obtain ⟨p, q, rfl⟩ : ∃ (p : Fin 4096) (q : Fin 8), y = ix2 p q := ⟨y 0, y 1, by funext a; fin_cases a <;> rfl⟩
  rw [pay5_apply (iblk m c 0 t) (iblk m c 1 t) (iblk m c 2 t) (iblk m c 3 t) (iblk m c 4 t) (table (argG m c)) (norms (argN m c))
    (wide m c) (fun a k => (blk1 m c t a k).trans (v3_apply m c a k)) (fun k => (blk2 m c t k).trans (v4_apply m c k))
    (fun a k => (blk3 m c t a k _ rfl).trans (v6_apply m c a k)) (fun a k => (blk4 m c t a k).trans (v10_apply m c a k))
    (wide_castSucc m c)]
  have hr : t.val * 4096 + p.val < 2097152 := by have := point_lt t; have := p.isLt; omega
  have e : ((View.whole main_v13_0).slice (win0_6.rect t)).emb (ix2 p q) = ix2 ⟨t.val * 4096 + p.val, hr⟩ q := by
    blk_ext [idx t]
  rw [blkRow m c t p ⟨_, hr⟩ rfl, e]
  rfl

/-- What point `t` stores, second result: the packed index of each of its rows. -/
theorem point7 (him : ∀ k, -524288 ≤ (words (argI m c) k).toInt ∧ (words (argI m c) k).toInt ≤ 524288) (t : Fin cfg0.N)
    (p : Fin 4096) (r : Fin 2097152) (hr : r.val = t.val * 4096 + p.val) :
    k0_pay1 (k0_pay2 (iblk m c 0 t))
        (k0_pay4 (iblk m c 0 t) (iblk m c 1 t) (iblk m c 2 t) (iblk m c 3 t) (iblk m c 4 t)) (iblk m c 5 t) (ix3 0 0 p)
      = indices (argX m c) (argG m c) (argN m c) (argI m c) (ix1 r) := by
  rw [pay1_apply (iblk m c 0 t) (iblk m c 1 t) (iblk m c 2 t) (iblk m c 3 t) (iblk m c 4 t) (iblk m c 5 t)
    (table (argG m c)) (norms (argN m c)) (wide m c) (words (argI m c))
    (fun a k => (blk1 m c t a k).trans (v3_apply m c a k)) (fun k => (blk2 m c t k).trans (v4_apply m c k))
    (fun a k => (blk3 m c t a k _ rfl).trans (v6_apply m c a k)) (fun a k => (blk4 m c t a k).trans (v10_apply m c a k))
    (wide_last m c) (fun a => (blk5 m c t a).trans (v12_apply m c a)) him, blkRow m c t p r hr]
  rfl

/-- The second output array after the run, for words of magnitude at most 2¹⁹. -/
theorem array7 (him : ∀ k, -524288 ≤ (words (argI m c) k).toInt ∧ (words (argI m c) k).toInt ≤ 524288) :
    (dats m 0 c).arrAt 7 (cfgs 0).N
      = fun i : S512x1x4096.Idx => indices (argX m c) (argG m c) (argN m c) (argI m c)
          (ix1 ⟨(i 0).val * 4096 + (i 2).val, row_lt i⟩) := by
  refine (dats m 0 c).arrAt_eq_of_covers 7 _ (by decide +kernel) fun t hf y => ?_
  blk_simp
  rw [after0_7]
  frame_out
  obtain ⟨p, rfl⟩ : ∃ p : Fin 4096, y = ix3 0 0 p := ⟨y 2, by
    funext a
    fin_cases a
    · exact Subsingleton.elim (α := Fin 1) _ _
    · exact Subsingleton.elim (α := Fin 1) _ _
    · rfl⟩
  refine point7 m c him t p _ ?_
  have h := (idx t).2.2.2.2.2.2.2
  have h0 : win0_7.index t 0 = t.val := congrFun h 0
  have h2 : win0_7.index t 2 = 0 := congrFun h 2
  show win0_7.index t 0 * 4096 + (win0_7.index t 2 * 4096 + p.val) = t.val * 4096 + p.val
  rw [h0, h2, zero_mul, zero_add]

end Cert.Proof.Arrays

end
-- ==== Proof.KernelRun.lean ====
/-
  The run of the kernel's program: every weakly fair execution ends with the two results at the row-by-row closed forms
  and the arguments unchanged.
-/
module

public import proofs.«01_k».proof.Proof.Arrays
public import Idealize.ShloMosaic.Lib.Claim

@[expose] public section

set_option maxRecDepth 16384

noncomputable section

namespace Cert.Proof.KernelRun

open Cert.KernelIdeal Cert.KernelIdeal.Gen Cert.Proof.Arrays Cert.Proof.Results
open Idealize.ShloMosaic Idealize.ShloMosaic.Pointwise Idealize.ShloMosaic.TcCoe Idealize.SL.Sem
open Idealize.ShloMosaic.Pipeline

variable (m : (ℓ : Loc nD τ sig) → Buf (Elt Ideal) ℓ) (ρ : Dev nD → PrngReg)

/-- The block and place of row `r`. -/
def place (r : Fin 2097152) : S512x1x4096.Idx :=
  ix3 ⟨r.val / 4096, by have := r.isLt; omega⟩ 0 ⟨r.val % 4096, Nat.mod_lt _ (by decide)⟩

/-- Rows numbered by block and place, put in one line, are numbered through. -/
theorem line_apply (Y : IVec S2097152 32) (r : Fin 2097152) :
    shapeCast S2097152 (fun i : S512x1x4096.Idx => Y (ix1 ⟨(i 0).val * 4096 + (i 2).val, row_lt i⟩))
      shapeCasts_S512x1x4096_S2097152 (ix1 r) = Y (ix1 r) := by
  rw [shapeCast_apply _ shapeCasts_S512x1x4096_S2097152 (ix1 r) (place r) (by
    refine (Shape.rowMajor_val_three _).trans (Eq.trans ?_ (Shape.rowMajor_val_one _).symm)
    show (r.val / 4096 * 1 + 0) * 4096 + r.val % 4096 = r.val
    omega)]
  refine congrArg (fun q => Y (ix1 q)) (Fin.ext ?_)
  show r.val / 4096 * 4096 + r.val % 4096 = r.val
  omega

/-- The second result: the second output array, its rows in one line, each word's low half. -/
theorem result15 (c : Dev nD) (him : ∀ k, -524288 ≤ (words (argI m c) k).toInt ∧ (words (argI m c) k).toInt ≤ 524288) :
    afterTail₀ cfgs (dats m) 0 (V0 m) [hostOps1] c main_v15
      = trunci 16 (indices (argX m c) (argG m c) (argN m c) (argI m c)) natLt_16_32 := by
  unfold afterTail₀
  simp only [hostOps1, List.flatten_cons, List.flatten_nil, List.append_nil, List.cons_append, List.nil_append]
  after_results
  have e : withArrays (cfgs 0).spec c (V0 m c) (fun w => (dats m 0 c).arrAt w (cfgs 0).N) (Proc.tc.devRef main_v13_1)
      = fun i : S512x1x4096.Idx => indices (argX m c) (argG m c) (argN m c) (argI m c)
          (ix1 ⟨(i 0).val * 4096 + (i 2).val, row_lt i⟩) :=
    (withArrays_arr spec0 (by decide) c (V0 m c) _ 7).trans (array7 m c him)
  rw [e]
  refine congrArg (fun Y => trunci 16 Y natLt_16_32) (funext fun j => ?_)
  obtain ⟨r, rfl⟩ : ∃ r : Fin 2097152, j = ix1 r := ⟨j 0, by funext a; fin_cases a; rfl⟩
  exact line_apply _ r

/-- The run of the kernel's program, for words of magnitude at most 2¹⁹. -/
theorem run (him : ∀ (c : Dev nD) k, -524288 ≤ (words (argI m c) k).toInt ∧ (words (argI m c) k).toInt ≤ 524288) :
    θ_run defs (onTc (τ := τ) (main (F := Ideal))) ⟨m, fun _ => 0, ρ⟩ fun r => ∀ c : Dev nD,
      r.2.mem ((c : Thread nD τ).loc main_v13_0) = vals (argX m c) (argG m c) (argN m c)
      ∧ r.2.mem ((c : Thread nD τ).loc main_v15) = trunci 16 (indices (argX m c) (argG m c) (argN m c) (argI m c)) natLt_16_32
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  run_from Gen.run_main m ρ
  · exact array6 m c
  · exact result15 m c (him c)
  · exact W_main_arg1 m (dats m) c
  · exact W_main_arg2 m (dats m) c
  · exact W_main_arg3 m (dats m) c

end Cert.Proof.KernelRun

end
-- ==== Proof.RefRun.lean ====
/-
  The run of the reference program. @main is a straight line of host operations, the called functions' operations
  standing in their calls' places; every weakly fair execution ends with the two results at the composed terms of the
  arguments that are named here step by step, and the arguments unchanged.
-/
module

public import proofs.«01_k».proof.Proof.Gen.ReferenceIdeal
public import Idealize.ShloMosaic.Lib.StableHlo.Run

@[expose] public section

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-- Which elements of the rows are negative. -/
def negs (X : (⟨S2097152x8, .f32⟩ : BufTy).Contents (Elt F)) : (⟨S2097152x8, .i1⟩ : BufTy).Contents (Elt F) :=
  cmpf .olt X (broadcastInDim S2097152x8 ![] bcast_S_S2097152x8 (constant S_ .f32 0x00000000#32))

/-- The sum of the map's words at the negative elements, moved up by eight bits. -/
def flips (X : (⟨S2097152x8, .f32⟩ : BufTy).Contents (Elt F)) (im : (⟨S8, .i32⟩ : BufTy).Contents (Elt F)) :
    (⟨S2097152, .i32⟩ : BufTy).Contents (Elt F) :=
  Host.shli
    (Host.reduce IntOp.addi
      (muli (broadcastInDim S2097152x8 ![0, 1] bcast_S1x8_S2097152x8_0_1 (broadcastInDim S1x8 ![1] bcast_S8_S1x8_1 im))
        (extui 32 (negs X) natLt_1_32))
      (constantI S_ 32 0#32) reducesTo_S2097152x8_S2097152_d1 h_S_)
    (broadcastInDim S2097152 ![] bcast_S_S2097152 (constantI S_ 32 8#32))

/-- The sign of each element: 1 - 2 · (negative). -/
def mask (X : (⟨S2097152x8, .f32⟩ : BufTy).Contents (Elt F)) : (⟨S2097152x8, .f32⟩ : BufTy).Contents (Elt F) :=
  subf (broadcastInDim S2097152x8 ![] bcast_S_S2097152x8 (constant S_ .f32 0x3F800000#32))
    (mulf (broadcastInDim S2097152x8 ![] bcast_S_S2097152x8 (constant S_ .f32 0x40000000#32)) (uitofp .f32 (negs X)))

/-- The score of each codeword for each row. -/
def scores (X : (⟨S2097152x8, .f32⟩ : BufTy).Contents (Elt F)) (g : (⟨S227x8, .f32⟩ : BufTy).Contents (Elt F))
    (n : (⟨S227, .f32⟩ : BufTy).Contents (Elt F)) : (⟨S2097152x227, .f32⟩ : BufTy).Contents (Elt F) :=
  subf
    (mulf (broadcastInDim S2097152x227 ![] bcast_S_S2097152x227 (constant S_ .f32 0x40000000#32))
      (Host.dotGeneral dot_S2097152x8_S8x227_S2097152x227_1_0_0_1_n_n none (Host.absf X)
        (transpose S8x227 [1, 0] g transposes_S227x8_S8x227_1_0)))
    (broadcastInDim S2097152x227 ![0, 1] bcast_S1x227_S2097152x227_0_1 (broadcastInDim S1x227 ![1] bcast_S227_S1x227_1 n))

/-- The arg-max of each row of scores. -/
def argmax (s : (⟨S2097152x227, .f32⟩ : BufTy).Contents (Elt F)) : (⟨S2097152, .i32⟩ : BufTy).Contents (Elt F) :=
  fun j => (Host.argReduce reducer_argmax_f32_i32 s (iotaInDim S2097152x227 32 1) (constant S_ .f32 0xFF800000#32)
    (constantI S_ 32 0#32) reducesTo_S2097152x227_S2097152_d1 h_S_ j).2

/-- A column of row numbers, a negative one counted from the end. -/
def wrapped (q : (⟨S2097152, .i32⟩ : BufTy).Contents (Elt F)) : (⟨S2097152x1, .i32⟩ : BufTy).Contents (Elt F) :=
  broadcastInDim S2097152x1 ![0] bcast_S2097152_S2097152x1_0
    (select (cmpi .slt q (broadcastInDim S2097152 ![] bcast_S_S2097152 (constantI S_ 32 0#32)))
      (addi q (broadcastInDim S2097152 ![] bcast_S_S2097152 (constantI S_ 32 227#32))) q)

/-- Which row numbers name a row of the table. -/
def inRange (w : (⟨S2097152x1, .i32⟩ : BufTy).Contents (Elt F)) : (⟨S2097152, .i1⟩ : BufTy).Contents (Elt F) :=
  Host.reduce IntOp.andi
    (andi (cmpi .sge w (broadcastInDim S2097152x1 ![] bcast_S_S2097152x1 (constantI S_ 32 0#32)))
      (cmpi .sle w (broadcastInDim S2097152x1 ![0, 1] bcast_S1x1_S2097152x1_0_1
        (broadcastInDim S1x1 ![1] bcast_S1_S1x1_1 (constantI S1 32 226#32)))))
    (constantI S_ 1 1#1) reducesTo_S2097152x1_S2097152_d1 h_S_

/-- The rows of the table that a column of row numbers names. -/
def taken (g : (⟨S227x8, .f32⟩ : BufTy).Contents (Elt F)) (q : (⟨S2097152, .i32⟩ : BufTy).Contents (Elt F)) :
    (⟨S2097152x8, .f32⟩ : BufTy).Contents (Elt F) :=
  select (broadcastInDim S2097152x8 ![0] bcast_S2097152_S2097152x8_0 (inRange (F := F) (wrapped (F := F) q)))
    (Host.gather gather_S227x8_S2097152x1_S2097152x8_1_0_n_n_0_1_18 g (wrapped (F := F) q))
    (broadcastInDim S2097152x8 ![] bcast_S_S2097152x8 (constant S_ .f32 0x7FC00000#32))

/-- The first result: the chosen codeword with the row's signs. -/
def vals (X : (⟨S2097152x8, .f32⟩ : BufTy).Contents (Elt F)) (g : (⟨S227x8, .f32⟩ : BufTy).Contents (Elt F))
    (n : (⟨S227, .f32⟩ : BufTy).Contents (Elt F)) : (⟨S2097152x8, .f32⟩ : BufTy).Contents (Elt F) :=
  mulf (taken g (argmax (scores X g n))) (mask X)

/-- The second result: the packed index. -/
def idx (X : (⟨S2097152x8, .f32⟩ : BufTy).Contents (Elt F)) (g : (⟨S227x8, .f32⟩ : BufTy).Contents (Elt F))
    (n : (⟨S227, .f32⟩ : BufTy).Contents (Elt F)) (im : (⟨S8, .i32⟩ : BufTy).Contents (Elt F)) :
    (⟨S2097152, .i16⟩ : BufTy).Contents (Elt F) :=
  trunci 16
    (addi (addi (flips X im) (argmax (scores X g n)))
      (broadcastInDim S2097152 ![] bcast_S_S2097152 (constantI S_ 32 4294934528#32))) natLt_16_32

/-- @main's operations, in order. -/
abbrev ops : List (HloOp τ sig (Elt F)) :=
  [ nullary main_cst (constant S_ .f32 0x00000000#32),
    unary main_cst main_v0 (broadcastInDim S2097152x8 ![] bcast_S_S2097152x8 : (⟨S_, .f32⟩ : BufTy).Contents (Elt F) → (⟨S2097152x8, .f32⟩ : BufTy).Contents (Elt F)),
    binary main_arg0 main_v0 main_v1 (cmpf .olt : (⟨S2097152x8, .f32⟩ : BufTy).Contents (Elt F) → (⟨S2097152x8, .f32⟩ : BufTy).Contents (Elt F) → (⟨S2097152x8, .i1⟩ : BufTy).Contents (Elt F)),
    unary main_arg3 main_v2 (broadcastInDim S1x8 ![1] bcast_S8_S1x8_1 : (⟨S8, .i32⟩ : BufTy).Contents (Elt F) → (⟨S1x8, .i32⟩ : BufTy).Contents (Elt F)),
    unary main_v1 main_v3 ((extui 32 · natLt_1_32) : (⟨S2097152x8, .i1⟩ : BufTy).Contents (Elt F) → (⟨S2097152x8, .i32⟩ : BufTy).Contents (Elt F)),
    unary main_v2 main_v4 (broadcastInDim S2097152x8 ![0, 1] bcast_S1x8_S2097152x8_0_1 : (⟨S1x8, .i32⟩ : BufTy).Contents (Elt F) → (⟨S2097152x8, .i32⟩ : BufTy).Contents (Elt F)),
    binary main_v4 main_v3 main_v5 (muli : (⟨S2097152x8, .i32⟩ : BufTy).Contents (Elt F) → (⟨S2097152x8, .i32⟩ : BufTy).Contents (Elt F) → (⟨S2097152x8, .i32⟩ : BufTy).Contents (Elt F)),
    nullary main_c (constantI S_ 32 0#32),
    binary main_v5 main_c main_v6 ((fun x v => Host.reduce IntOp.addi x v reducesTo_S2097152x8_S2097152_d1 h_S_) : (⟨S2097152x8, .i32⟩ : BufTy).Contents (Elt F) → (⟨S_, .i32⟩ : BufTy).Contents (Elt F) → (⟨S2097152, .i32⟩ : BufTy).Contents (Elt F)),
    nullary main_c_0 (constantI S_ 32 8#32),
    unary main_c_0 main_v7 (broadcastInDim S2097152 ![] bcast_S_S2097152 : (⟨S_, .i32⟩ : BufTy).Contents (Elt F) → (⟨S2097152, .i32⟩ : BufTy).Contents (Elt F)),
    binary main_v6 main_v7 main_v8 (Host.shli : (⟨S2097152, .i32⟩ : BufTy).Contents (Elt F) → (⟨S2097152, .i32⟩ : BufTy).Contents (Elt F) → (⟨S2097152, .i32⟩ : BufTy).Contents (Elt F)),
    unary main_v1 main_v9 (uitofp .f32 : (⟨S2097152x8, .i1⟩ : BufTy).Contents (Elt F) → (⟨S2097152x8, .f32⟩ : BufTy).Contents (Elt F)),
    nullary main_cst_1 (constant S_ .f32 0x40000000#32),
    unary main_cst_1 main_v10 (broadcastInDim S2097152x8 ![] bcast_S_S2097152x8 : (⟨S_, .f32⟩ : BufTy).Contents (Elt F) → (⟨S2097152x8, .f32⟩ : BufTy).Contents (Elt F)),
    binary main_v10 main_v9 main_v11 (mulf : (⟨S2097152x8, .f32⟩ : BufTy).Contents (Elt F) → (⟨S2097152x8, .f32⟩ : BufTy).Contents (Elt F) → (⟨S2097152x8, .f32⟩ : BufTy).Contents (Elt F)),
    nullary main_cst_2 (constant S_ .f32 0x3F800000#32),
    unary main_cst_2 main_v12 (broadcastInDim S2097152x8 ![] bcast_S_S2097152x8 : (⟨S_, .f32⟩ : BufTy).Contents (Elt F) → (⟨S2097152x8, .f32⟩ : BufTy).Contents (Elt F)),
    binary main_v12 main_v11 main_v13 (subf : (⟨S2097152x8, .f32⟩ : BufTy).Contents (Elt F) → (⟨S2097152x8, .f32⟩ : BufTy).Contents (Elt F) → (⟨S2097152x8, .f32⟩ : BufTy).Contents (Elt F)),
    unary main_arg0 main_v14 (Host.absf : (⟨S2097152x8, .f32⟩ : BufTy).Contents (Elt F) → (⟨S2097152x8, .f32⟩ : BufTy).Contents (Elt F)),
    unary main_arg1 main_v15 ((transpose S8x227 [1, 0] · transposes_S227x8_S8x227_1_0) : (⟨S227x8, .f32⟩ : BufTy).Contents (Elt F) → (⟨S8x227, .f32⟩ : BufTy).Contents (Elt F)),
    binary main_v14 main_v15 main_v16 ((fun l r => Host.dotGeneral dot_S2097152x8_S8x227_S2097152x227_1_0_0_1_n_n none l r) : (⟨S2097152x8, .f32⟩ : BufTy).Contents (Elt F) → (⟨S8x227, .f32⟩ : BufTy).Contents (Elt F) → (⟨S2097152x227, .f32⟩ : BufTy).Contents (Elt F)),
    nullary main_cst_3 (constant S_ .f32 0x40000000#32),
    unary main_cst_3 main_v17 (broadcastInDim S2097152x227 ![] bcast_S_S2097152x227 : (⟨S_, .f32⟩ : BufTy).Contents (Elt F) → (⟨S2097152x227, .f32⟩ : BufTy).Contents (Elt F)),
    binary main_v17 main_v16 main_v18 (mulf : (⟨S2097152x227, .f32⟩ : BufTy).Contents (Elt F) → (⟨S2097152x227, .f32⟩ : BufTy).Contents (Elt F) → (⟨S2097152x227, .f32⟩ : BufTy).Contents (Elt F)),
    unary main_arg2 main_v19 (broadcastInDim S1x227 ![1] bcast_S227_S1x227_1 : (⟨S227, .f32⟩ : BufTy).Contents (Elt F) → (⟨S1x227, .f32⟩ : BufTy).Contents (Elt F)),
    unary main_v19 main_v20 (broadcastInDim S2097152x227 ![0, 1] bcast_S1x227_S2097152x227_0_1 : (⟨S1x227, .f32⟩ : BufTy).Contents (Elt F) → (⟨S2097152x227, .f32⟩ : BufTy).Contents (Elt F)),
    binary main_v18 main_v20 main_v21 (subf : (⟨S2097152x227, .f32⟩ : BufTy).Contents (Elt F) → (⟨S2097152x227, .f32⟩ : BufTy).Contents (Elt F) → (⟨S2097152x227, .f32⟩ : BufTy).Contents (Elt F)),
    TRef.nullary (TRef.of (T := ⟨S2097152x227, .i32⟩) main_call0_v0) (iotaInDim S2097152x227 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S2097152x227, .f32⟩) main_v21) (TRef.of (T := ⟨S2097152x227, .i32⟩) main_call0_v0) (TRef.of (T := ⟨S_, .f32⟩) main_call0_cst) (TRef.of (T := ⟨S_, .i32⟩) main_call0_c) (TRef.of (T := ⟨S2097152, .f32⟩) main_call0_v1_0) (fun x y u v j => (Host.argReduce reducer_argmax_f32_i32 x y u v reducesTo_S2097152x227_S2097152_d1 h_S_ j).1),
    TRef.quaternary (TRef.of (T := ⟨S2097152x227, .f32⟩) main_v21) (TRef.of (T := ⟨S2097152x227, .i32⟩) main_call0_v0) (TRef.of (T := ⟨S_, .f32⟩) main_call0_cst) (TRef.of (T := ⟨S_, .i32⟩) main_call0_c) (TRef.of (T := ⟨S2097152, .i32⟩) main_v22) (fun x y u v j => (Host.argReduce reducer_argmax_f32_i32 x y u v reducesTo_S2097152x227_S2097152_d1 h_S_ j).2),
    TRef.nullary (TRef.of (T := ⟨S_, .i32⟩) main_call1_c) (constantI S_ 32 0#32),
    TRef.unary (TRef.of (T := ⟨S_, .i32⟩) main_call1_c) (TRef.of (T := ⟨S2097152, .i32⟩) main_call1_v0) (broadcastInDim S2097152 ![] bcast_S_S2097152),
    TRef.binary (TRef.of (T := ⟨S2097152, .i32⟩) main_v22) (TRef.of (T := ⟨S2097152, .i32⟩) main_call1_v0) (TRef.of (T := ⟨S2097152, .i1⟩) main_call1_v1) (cmpi .slt),
    TRef.nullary (TRef.of (T := ⟨S_, .i32⟩) main_call1_c_0) (constantI S_ 32 227#32),
    TRef.unary (TRef.of (T := ⟨S_, .i32⟩) main_call1_c_0) (TRef.of (T := ⟨S2097152, .i32⟩) main_call1_v2) (broadcastInDim S2097152 ![] bcast_S_S2097152),
    TRef.binary (TRef.of (T := ⟨S2097152, .i32⟩) main_v22) (TRef.of (T := ⟨S2097152, .i32⟩) main_call1_v2) (TRef.of (T := ⟨S2097152, .i32⟩) main_call1_v3) addi,
    TRef.ternary (TRef.of (T := ⟨S2097152, .i1⟩) main_call1_v1) (TRef.of (T := ⟨S2097152, .i32⟩) main_call1_v3) (TRef.of (T := ⟨S2097152, .i32⟩) main_v22) (TRef.of (T := ⟨S2097152, .i32⟩) main_call1_v4) select,
    TRef.unary (TRef.of (T := ⟨S2097152, .i32⟩) main_call1_v4) (TRef.of (T := ⟨S2097152x1, .i32⟩) main_call1_v5) (broadcastInDim S2097152x1 ![0] bcast_S2097152_S2097152x1_0),
    TRef.nullary (TRef.of (T := ⟨S1, .i32⟩) main_call1_c_1) (constantI S1 32 226#32),
    TRef.nullary (TRef.of (T := ⟨S_, .i32⟩) main_call1_c_2) (constantI S_ 32 0#32),
    TRef.unary (TRef.of (T := ⟨S_, .i32⟩) main_call1_c_2) (TRef.of (T := ⟨S2097152x1, .i32⟩) main_call1_v6) (broadcastInDim S2097152x1 ![] bcast_S_S2097152x1),
    TRef.binary (TRef.of (T := ⟨S2097152x1, .i32⟩) main_call1_v5) (TRef.of (T := ⟨S2097152x1, .i32⟩) main_call1_v6) (TRef.of (T := ⟨S2097152x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S2097152x1, .i32⟩) main_call1_v9) (broadcastInDim S2097152x1 ![0, 1] bcast_S1x1_S2097152x1_0_1),
    TRef.binary (TRef.of (T := ⟨S2097152x1, .i32⟩) main_call1_v5) (TRef.of (T := ⟨S2097152x1, .i32⟩) main_call1_v9) (TRef.of (T := ⟨S2097152x1, .i1⟩) main_call1_v10) (cmpi .sle),
    TRef.binary (TRef.of (T := ⟨S2097152x1, .i1⟩) main_call1_v7) (TRef.of (T := ⟨S2097152x1, .i1⟩) main_call1_v10) (TRef.of (T := ⟨S2097152x1, .i1⟩) main_call1_v11) andi,
    TRef.nullary (TRef.of (T := ⟨S_, .i1⟩) main_call1_c_3) (constantI S_ 1 1#1),
    TRef.binary (TRef.of (T := ⟨S2097152x1, .i1⟩) main_call1_v11) (TRef.of (T := ⟨S_, .i1⟩) main_call1_c_3) (TRef.of (T := ⟨S2097152, .i1⟩) main_call1_v12) (fun x v => Host.reduce IntOp.andi x v reducesTo_S2097152x1_S2097152_d1 h_S_),
    TRef.binary (TRef.of (T := ⟨S227x8, .f32⟩) main_arg1) (TRef.of (T := ⟨S2097152x1, .i32⟩) main_call1_v5) (TRef.of (T := ⟨S2097152x8, .f32⟩) main_call1_v13) (fun x i => Host.gather gather_S227x8_S2097152x1_S2097152x8_1_0_n_n_0_1_18 x i),
    TRef.unary (TRef.of (T := ⟨S2097152, .i1⟩) main_call1_v12) (TRef.of (T := ⟨S2097152x8, .i1⟩) main_call1_v14) (broadcastInDim S2097152x8 ![0] bcast_S2097152_S2097152x8_0),
    TRef.nullary (TRef.of (T := ⟨S_, .f32⟩) main_call1_cst) (constant S_ .f32 0x7FC00000#32),
    TRef.unary (TRef.of (T := ⟨S_, .f32⟩) main_call1_cst) (TRef.of (T := ⟨S2097152x8, .f32⟩) main_call1_v15) (broadcastInDim S2097152x8 ![] bcast_S_S2097152x8),
    TRef.ternary (TRef.of (T := ⟨S2097152x8, .i1⟩) main_call1_v14) (TRef.of (T := ⟨S2097152x8, .f32⟩) main_call1_v13) (TRef.of (T := ⟨S2097152x8, .f32⟩) main_call1_v15) (TRef.of (T := ⟨S2097152x8, .f32⟩) main_v23) select,
    binary main_v23 main_v13 main_v24 (mulf : (⟨S2097152x8, .f32⟩ : BufTy).Contents (Elt F) → (⟨S2097152x8, .f32⟩ : BufTy).Contents (Elt F) → (⟨S2097152x8, .f32⟩ : BufTy).Contents (Elt F)),
    binary main_v8 main_v22 main_v25 (addi : (⟨S2097152, .i32⟩ : BufTy).Contents (Elt F) → (⟨S2097152, .i32⟩ : BufTy).Contents (Elt F) → (⟨S2097152, .i32⟩ : BufTy).Contents (Elt F)),
    nullary main_c_4 (constantI S_ 32 4294934528#32),
    unary main_c_4 main_v26 (broadcastInDim S2097152 ![] bcast_S_S2097152 : (⟨S_, .i32⟩ : BufTy).Contents (Elt F) → (⟨S2097152, .i32⟩ : BufTy).Contents (Elt F)),
    binary main_v25 main_v26 main_v27 (addi : (⟨S2097152, .i32⟩ : BufTy).Contents (Elt F) → (⟨S2097152, .i32⟩ : BufTy).Contents (Elt F) → (⟨S2097152, .i32⟩ : BufTy).Contents (Elt F)),
    unary main_v27 main_v28 ((trunci 16 · natLt_16_32) : (⟨S2097152, .i32⟩ : BufTy).Contents (Elt F) → (⟨S2097152, .i16⟩ : BufTy).Contents (Elt F)) ]

set_option maxRecDepth 8192 in
/-- @main is that straight line. -/
theorem main_eq (c : Dev nD) : main (F := F) c = seq ops := rfl

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨nullary_bufs_sub .., unary_bufs_sub .., binary_bufs_sub .., unary_bufs_sub .., unary_bufs_sub .., unary_bufs_sub
    .., binary_bufs_sub .., nullary_bufs_sub .., binary_bufs_sub .., nullary_bufs_sub .., unary_bufs_sub ..,
    binary_bufs_sub .., unary_bufs_sub .., nullary_bufs_sub .., unary_bufs_sub .., binary_bufs_sub .., nullary_bufs_sub
    .., unary_bufs_sub .., binary_bufs_sub .., unary_bufs_sub .., unary_bufs_sub .., binary_bufs_sub ..,
    nullary_bufs_sub .., unary_bufs_sub .., binary_bufs_sub .., unary_bufs_sub .., unary_bufs_sub .., binary_bufs_sub
    .., nullary_bufs_sub .., nullary_bufs_sub .., nullary_bufs_sub .., quaternary_bufs_sub .., quaternary_bufs_sub ..,
    nullary_bufs_sub .., unary_bufs_sub .., binary_bufs_sub .., nullary_bufs_sub .., unary_bufs_sub .., binary_bufs_sub
    .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub
    .., binary_bufs_sub .., binary_bufs_sub .., unary_bufs_sub .., nullary_bufs_sub .., unary_bufs_sub ..,
    ternary_bufs_sub .., binary_bufs_sub .., binary_bufs_sub .., nullary_bufs_sub .., unary_bufs_sub ..,
    binary_bufs_sub .., unary_bufs_sub ..⟩

set_option maxRecDepth 8192 in
set_option maxHeartbeats 2000000 in
/-- Every weakly fair execution of @main from zero counters ends with the two results at `vals` and `idx` of the
    arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = vals (m ((c.tc : Thread nD τ).loc main_arg0))
          (m ((c.tc : Thread nD τ).loc main_arg1)) (m ((c.tc : Thread nD τ).loc main_arg2))
      ∧ r.2.mem ((c.tc : Thread nD τ).loc main_v28) = idx (m ((c.tc : Thread nD τ).loc main_arg0))
          (m ((c.tc : Thread nD τ).loc main_arg1)) (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v24).trans (by simp only [ops, TRef.binary, TRef.nullary, TRef.ternary, TRef.quaternary, TRef.unary, TRef.toBuf, TRef.ofBuf, cast_eq]; after_results_simp <;> rfl),
      (h c main_v28).trans (by simp only [ops, TRef.binary, TRef.nullary, TRef.ternary, TRef.quaternary, TRef.unary, TRef.toBuf, TRef.ofBuf, cast_eq]; after_results_simp <;> rfl),
      (h c main_arg0).trans (by simp only [ops, TRef.binary, TRef.nullary, TRef.ternary, TRef.quaternary, TRef.unary, TRef.toBuf, TRef.ofBuf, cast_eq]; after_results_simp <;> rfl),
      (h c main_arg1).trans (by simp only [ops, TRef.binary, TRef.nullary, TRef.ternary, TRef.quaternary, TRef.unary, TRef.toBuf, TRef.ofBuf, cast_eq]; after_results_simp <;> rfl),
      (h c main_arg2).trans (by simp only [ops, TRef.binary, TRef.nullary, TRef.ternary, TRef.quaternary, TRef.unary, TRef.toBuf, TRef.ofBuf, cast_eq]; after_results_simp <;> rfl),
      (h c main_arg3).trans (by simp only [ops, TRef.binary, TRef.nullary, TRef.ternary, TRef.quaternary, TRef.unary, TRef.toBuf, TRef.ofBuf, cast_eq]; after_results_simp <;> rfl)⟩)
    (run_seq scopedRefs_eq scopedSems_eq defs main (fun _ => ops) main_eq (fun _ => ops_sub) m ρ)

end Cert.Proof.RefRun

end
-- ==== Proof.ArgMax.lean ====
/-
  An arg-max along the rows of a matrix: where the step keeps the greater value, and the smaller position on equal
  values, its result at a row is the first position of the row's maximum.
-/
module

public import proofs.«01_k».proof.Proof.First
public import Idealize.ShloMosaic.Lib.Pointwise
public import Idealize.ShloMosaic.Lib.StableHlo.Predicate
public import Idealize.ShloMosaic.PureOps.Ideal.Laws

@[expose] public section

noncomputable section

namespace Cert.Proof.ArgMax

open Cert.Proof.First Idealize.ShloMosaic Idealize.ShloMosaic.Pointwise

/-- An element of a matrix lies in the row that it is reduced to. -/
theorem drop_eq {a b : ℕ} (h : (⟨2, ![a, b]⟩ : Shape).ReducesTo [1] ⟨1, ![a]⟩) (i : (⟨2, ![a, b]⟩ : Shape).Idx)
    (r : Fin a) : h.drop i = ix1 r ↔ i 0 = r := by
  have hv : (h.drop i 0 : Nat) = i 0 := Shape.ReducesTo.drop_apply_val h i 0
  constructor
  · intro e
    rw [e] at hv
    exact Fin.ext hv.symm
  · intro e
    funext k
    have hk : k = 0 := Subsingleton.elim _ _
    subst hk
    exact Fin.ext (by rw [hv, e]; rfl)

/-- The pairs that the reduction of row `r` meets are the row's values with their positions. -/
theorem mem_fiber {a b : ℕ} (h : (⟨2, ![a, b]⟩ : Shape).ReducesTo [1] ⟨1, ![a]⟩) (s : FVec Ideal ⟨2, ![a, b]⟩ .f32)
    (r : Fin a) (q : EReal × BitVec 32) :
    q ∈ Host.argReduceFiber s (iotaInDim ⟨2, ![a, b]⟩ 32 1) h (ix1 r)
      ↔ ∃ k : Fin b, q = ((s (ix2 r k) : EReal), BitVec.ofNat 32 k.val) := by
  unfold Host.argReduceFiber
  rw [List.mem_map]
  constructor
  · rintro ⟨p, hp, rfl⟩
    rw [List.mem_filter, decide_eq_true_iff] at hp
    have h0 := (drop_eq h _ r).1 hp.2
    generalize (⟨2, ![a, b]⟩ : Shape).rowMajor.symm p = i at h0 ⊢
    obtain ⟨t, k, rfl⟩ : ∃ (t : Fin a) (k : Fin b), i = ix2 t k := ⟨i 0, i 1, by funext e; fin_cases e <;> rfl⟩
    have ht : t = r := h0
    subst ht
    exact ⟨k, rfl⟩
  · rintro ⟨k, rfl⟩
    refine ⟨(⟨2, ![a, b]⟩ : Shape).rowMajor (ix2 r k), ?_, ?_⟩
    · rw [List.mem_filter, decide_eq_true_iff, Equiv.symm_apply_apply]
      exact ⟨List.mem_finRange _, (drop_eq h _ r).2 rfl⟩
    · rw [Equiv.symm_apply_apply]
      rfl

/-- The position that the arg-max gives at row `r`. -/
theorem argReduce_apply {a b : ℕ} [NeZero b] {u : Shape} (hb : b < 2 ^ 31)
    (h : (⟨2, ![a, b]⟩ : Shape).ReducesTo [1] ⟨1, ![a]⟩) (hu : 0 < u.numel)
    (f : EReal × BitVec 32 → EReal × BitVec 32 → EReal × BitVec 32)
    (hf : ∀ p q, f p q = if q.1 < p.1 ∨ (p.1 = q.1 ∧ p.2.toInt < q.2.toInt) then p else q)
    (s : FVec Ideal ⟨2, ![a, b]⟩ .f32) (ix : FVec Ideal u .f32) (iy : IVec u 32) (hix : ∀ i, ix i = (⊥ : EReal))
    (hiy : ∀ i, iy i = 0#32) (r : Fin a) :
    (Host.argReduce (φ := .f32) f s (iotaInDim ⟨2, ![a, b]⟩ 32 1) ix iy h hu (ix1 r)).2
      = BitVec.ofNat 32 (first (fun k : Fin b => (s (ix2 r k) : EReal))).val := by
  rw [Ideal.argReduce_eq_reduce2, Host.reduce2_eq_foldl_fiber, hix, hiy]
  exact foldl_pos (fun w : BitVec 32 => w.toInt) f hf (fun k : Fin b => (s (ix2 r k) : EReal))
    (fun k => BitVec.ofNat 32 k.val)
    (fun k => StableHlo.Predicate.toInt_ofNat_small _ (lt_trans k.isLt hb)) _ (mem_fiber h s r)

end Cert.Proof.ArgMax

end
-- ==== Proof.RefValues.lean ====
/-
  The reference's terms at an index: the scores, the arg-max, the gathered codeword, the signs and the packed index are
  the row's own.
-/
module

public import proofs.«01_k».proof.Proof.RefRun
public import proofs.«01_k».proof.Proof.Results
public import proofs.«01_k».proof.Proof.ArgMax
public import proofs.«01_k».proof.Proof.Words
public import Idealize.ShloMosaic.Lib.Pointwise
public import Idealize.ShloMosaic.Lib.ReduceAll
public import Idealize.ShloMosaic.Lib.Routing.Ops
public import Idealize.ShloMosaic.Lib.StableHlo.Predicate
public import Idealize.ShloMosaic.PureOps.Ideal.Laws

@[expose] public section

noncomputable section

namespace Cert.Proof.RefValues

open Cert.ReferenceIdeal Cert.ReferenceIdeal.Gen Cert.Proof.First Cert.Proof.Row Cert.Proof.Results
open Idealize.ShloMosaic Idealize.ShloMosaic.Pointwise

variable (X : FVec Ideal S2097152x8 .f32) (g : FVec Ideal S227x8 .f32) (n : FVec Ideal S227 .f32) (im : IVec S8 32)

/-- The word 0x40000000 is 2. -/
theorem ofBits_two : Ideal.ofBits .f32 1073741824#32 = 2 := by
  simp [Ideal.ofBits, Ideal.ieee, -EReal.coe_mul]; norm_num; rfl

/-- The word 0xFF800000 is −∞. -/
theorem ofBits_bot : Ideal.ofBits .f32 4286578688#32 = ⊥ := by
  simp [Ideal.ofBits, Ideal.ieee]

/-- The scores at row `r`. -/
theorem scores_apply (r : Fin 2097152) (k : Fin 227) :
    RefRun.scores (F := Ideal) X g n (ix2 r k) = score (row X r) (table g) (norms n) k := by
  pointwise [RefRun.scores]
  rw [ofBits_two]
  rfl

/-- The reference's step keeps the greater value, and the smaller position, as an integer, on equal values. -/
theorem step_eq (a b : EReal × BitVec 32) : reducer_argmax_f32_i32 (F := Ideal) a b
    = if b.1 < a.1 ∨ (a.1 = b.1 ∧ a.2.toInt < b.2.toInt) then a else b := by
  obtain ⟨a1, a2⟩ := a
  obtain ⟨b1, b2⟩ := b
  have h1 : FloatOps.cmpf (F := Ideal) (φ := .f32) .ogt a1 b1 = BitVec.ofBool (decide (b1 < a1)) := rfl
  have h2 : FloatOps.cmpf (F := Ideal) (φ := .f32) .une a1 a1 = 0#1 := by simp [Ideal.cmpf_def, Ideal.cmp]
  have h3 : FloatOps.cmpf (F := Ideal) (φ := .f32) .oeq a1 b1 = BitVec.ofBool (decide (a1 = b1)) := rfl
  have h4 : IntOp.cmpi .slt a2 b2 = BitVec.ofBool (decide (a2.toInt < b2.toInt)) := rfl
  show (Scalar.select _ a1 b1, Scalar.select _ a2 b2) = _
  rw [h1, h2, h3, h4]
  rcases lt_trichotomy b1 a1 with h | h | h
  · simp [Scalar.select, IntOp.ori, IntOp.andi, h, h.ne']
  · subst h
    by_cases hq : a2.toInt < b2.toInt <;> simp [Scalar.select, IntOp.ori, IntOp.andi, hq]
  · simp [Scalar.select, IntOp.ori, IntOp.andi, h.not_gt, h.ne]

/-- The arg-max, its constants as they stand. -/
theorem argmax_def (s : FVec Ideal S2097152x227 .f32) : RefRun.argmax (F := Ideal) s = fun j =>
    (Host.argReduce (reducer_argmax_f32_i32 (F := Ideal)) s (iotaInDim S2097152x227 32 1)
      (constant S_ .f32 0xFF800000#32) (constantI S_ 32 0#32) reducesTo_S2097152x227_S2097152_d1 h_S_ j).2 := by
  unfold RefRun.argmax
  rfl

/-- The arg-max of row `r` is the first position of its maximum. -/
theorem argmax_apply (s : FVec Ideal S2097152x227 .f32) (r : Fin 2097152) :
    RefRun.argmax (F := Ideal) s (ix1 r) = BitVec.ofNat 32 (first (fun k : Fin 227 => (s (ix2 r k) : EReal))).val :=
  (congrFun (argmax_def s) (ix1 r)).trans
    (ArgMax.argReduce_apply (a := 2097152) (b := 227) (by norm_num) reducesTo_S2097152x227_S2097152_d1 h_S_ _ step_eq s
      (constant S_ .f32 0xFF800000#32) (constantI S_ 32 0#32) (fun _ => ofBits_bot) (fun _ => rfl) r)

/-- A row number below 227 is not negative, so it is taken as it is. -/
theorem wrapped_apply (q : IVec S2097152 32) (r : Fin 2097152) (b : Fin 227) (hb : q (ix1 r) = BitVec.ofNat 32 b.val) :
    RefRun.wrapped (F := Ideal) q (ix2 r 0) = BitVec.ofNat 32 b.val := by
  pointwise [RefRun.wrapped]
  rw [hb]
  have hn : ¬ (BitVec.ofNat 32 b.val).toInt < 0 := by
    rw [StableHlo.Predicate.toInt_ofNat_small _ (by have := b.isLt; omega)]
    omega
  have hc : IntOp.cmpi .slt (BitVec.ofNat 32 b.val) 0#32 = 0#1 := by
    show BitVec.ofBool (decide (_ < (0#32 : BitVec 32).toInt)) = _
    rw [decide_eq_false (by simpa using hn)]
    rfl
  rw [hc]
  rfl

/-- A row number below 227 names a row of the table. -/
theorem inRange_apply (w : IVec S2097152x1 32) (r : Fin 2097152) (b : Fin 227) (hb : w (ix2 r 0) = BitVec.ofNat 32 b.val) :
    RefRun.inRange (F := Ideal) w (ix1 r) = 1#1 := by
  pointwise [RefRun.inRange]
  have ht : (BitVec.ofNat 32 b.val).toInt = (b.val : ℤ) :=
    StableHlo.Predicate.toInt_ofNat_small _ (by have := b.isLt; omega)
  have h0 : IntOp.cmpi .sge (BitVec.ofNat 32 b.val) 0#32 = 1#1 := by
    show BitVec.ofBool (decide ((0#32 : BitVec 32).toInt ≤ _)) = _
    rw [ht, decide_eq_true (by simp)]
    rfl
  have h1 : IntOp.cmpi .sle (BitVec.ofNat 32 b.val) 226#32 = 1#1 := by
    show BitVec.ofBool (decide (_ ≤ (226#32 : BitVec 32).toInt)) = _
    rw [ht, decide_eq_true (by have := b.isLt; simp; omega)]
    rfl
  rw [Finset.univ_unique, Finset.fold_singleton]
  show IntOp.andi (IntOp.andi (IntOp.cmpi .sge (w (ix2 r 0)) 0#32) (IntOp.cmpi .sle (w (ix2 r 0)) 226#32)) 1#1 = 1#1
  rw [hb, h0, h1]
  rfl

/-- The gathered codeword. -/
theorem taken_apply (q : IVec S2097152 32) (r : Fin 2097152) (c : Fin 8) (b : Fin 227)
    (hb : q (ix1 r) = BitVec.ofNat 32 b.val) : RefRun.taken (F := Ideal) g q (ix2 r c) = g (ix2 b c) := by
  pointwise [RefRun.taken]
  have hw := wrapped_apply q r b hb
  have hg : Host.gather gather_S227x8_S2097152x1_S2097152x8_1_0_n_n_0_1_18 g (RefRun.wrapped (F := Ideal) q) (ix2 r c)
      = g (ix2 b c) :=
    Routing.gather_row gather_S227x8_S2097152x1_S2097152x8_1_0_n_n_0_1_18 rfl rfl rfl rfl rfl g
      (RefRun.wrapped (F := Ideal) q) r c b hw (by norm_num)
  rw [inRange_apply _ r b hw, hg]
  rfl

/-- A set bit as a real is 1. -/
theorem uitofp_one : (FloatOps.uitofp (F := Ideal) .f32 (BitVec.ofBool true) : EReal) = 1 := by
  show (((BitVec.ofBool true).toNat : ℝ) : EReal) = 1
  simp

/-- A clear bit as a real is 0. -/
theorem uitofp_zero : (FloatOps.uitofp (F := Ideal) .f32 (BitVec.ofBool false) : EReal) = 0 := by
  show (((BitVec.ofBool false).toNat : ℝ) : EReal) = 0
  simp

/-- 1 − 2 = −1 in the extended reals. -/
theorem one_sub_two : (1 : EReal) - 2 = -1 := by
  have h : (2 : EReal) = ((2 : ℝ) : EReal) := rfl
  rw [h, ← EReal.coe_one, ← EReal.coe_sub, ← EReal.coe_neg]
  norm_num

/-- 1 − 2 · (negative) is the sign. -/
theorem mask_apply (r : Fin 2097152) (c : Fin 8) : RefRun.mask (F := Ideal) X (ix2 r c) = sign (row X r c) := by
  pointwise [RefRun.mask, RefRun.negs]
  rw [ofBits_two]
  show (1 : EReal) - 2 * FloatOps.uitofp (F := Ideal) .f32 (BitVec.ofBool (decide ((X (ix2 r c) : EReal) < 0)))
    = if (X (ix2 r c) : EReal) < 0 then -1 else 1
  by_cases h : (X (ix2 r c) : EReal) < 0
  · rw [decide_eq_true h, if_pos h, uitofp_one, mul_one, one_sub_two]
  · rw [decide_eq_false h, if_neg h, uitofp_zero, mul_zero, sub_zero]

/-- The sum of the map's words at the negative elements, moved up by eight bits. -/
theorem flips_apply (r : Fin 2097152) :
    RefRun.flips (F := Ideal) X im (ix1 r) = BitVec.ofInt 32 (signSum (row X r) (words im)) <<< (8 : ℕ) := by
  pointwise [RefRun.flips, RefRun.negs]
  have hm : ∀ x : Fin 8, IntOp.muli (im (ix1 x)) (BitVec.setWidth 32 (BitVec.ofBool (decide ((X (ix2 r x) : EReal) < 0))))
      = BitVec.ofInt 32 (if row X r x < 0 then (words im x).toInt else 0) := by
    intro x
    show im (ix1 x) * _ = BitVec.ofInt 32 (if (X (ix2 r x) : EReal) < 0 then (im (ix1 x)).toInt else 0)
    by_cases h : (X (ix2 r x) : EReal) < 0
    · rw [decide_eq_true h, if_pos h, BitVec.ofInt_toInt]
      exact BitVec.mul_one _
    · rw [decide_eq_false h, if_neg h]
      exact BitVec.mul_zero
  show IntOp.shli ArithUnit.host (Finset.fold IntOp.addi 0#32 (fun x : Fin 8 => IntOp.muli (im (ix1 x))
    (BitVec.setWidth 32 (BitVec.ofBool (decide ((X (ix2 r x) : EReal) < 0))))) Finset.univ) 8#32 = _
  simp only [hm]
  rw [Words.fold_ofInt]
  rfl

/-- The chosen codeword's number. -/
theorem argmax_scores (r : Fin 2097152) : RefRun.argmax (F := Ideal) (RefRun.scores X g n) (ix1 r)
    = BitVec.ofNat 32 (pick (row X r) (table g) (norms n)).val := by
  rw [argmax_apply]
  simp only [scores_apply]
  rfl

/-- The first result. -/
theorem vals_eq : RefRun.vals (F := Ideal) X g n = vals X g n := by
  funext i
  obtain ⟨r, c, rfl⟩ : ∃ (r : Fin 2097152) (c : Fin 8), i = ix2 r c := ⟨i 0, i 1, by funext b; fin_cases b <;> rfl⟩
  pointwise [RefRun.vals]
  rw [taken_apply g _ r c _ (argmax_scores X g n r), mask_apply]
  rfl

/-- The second result. -/
theorem idx_eq : RefRun.idx (F := Ideal) X g n im = trunci 16 (indices X g n im) natLt_16_32 := by
  refine congrArg (fun w : IVec S2097152 32 => trunci 16 w natLt_16_32) ?_
  funext j
  obtain ⟨r, rfl⟩ : ∃ r : Fin 2097152, j = ix1 r := ⟨j 0, by funext b; fin_cases b; rfl⟩
  show RefRun.flips (F := Ideal) X im (ix1 r) + RefRun.argmax (F := Ideal) (RefRun.scores X g n) (ix1 r) + 4294934528#32
    = BitVec.ofInt 32 (index (row X r) (table g) (norms n) (words im))
  rw [flips_apply, argmax_scores, Words.pack_word]
  rfl

end Cert.Proof.RefValues

end
-- ==== Proof.Range.lean ====
/-
  What the precondition says: each word of the map, as a signed integer, is between −2¹⁹ and 2¹⁹.
-/
module

public import proofs.«01_k».proof.Pre_int_map_in_range
public import proofs.«01_k».proof.Proof.Results
public import Idealize.ShloMosaic.Lib.Pointwise

@[expose] public section

noncomputable section

namespace Cert.Proof.Range

open Cert.Pre_int_map_in_range Cert.Proof.Results Idealize.ShloMosaic Idealize.ShloMosaic.Pointwise

/-- The precondition's one side condition: a scalar can be spread over eight places. -/
theorem facts : Cert.Pre_int_map_in_range.Facts := ⟨by decide⟩

/-- Two bits whose conjunction is set are both set. -/
theorem both_set (p q : Prop) [Decidable p] [Decidable q]
    (h : IntOp.andi (BitVec.ofBool (decide p)) (BitVec.ofBool (decide q)) = 1#1) : p ∧ q := by
  by_cases hp : p <;> by_cases hq : q <;> simp [IntOp.andi, hp, hq] at h ⊢

/-- The precondition read at the map's words. -/
theorem bounds [Cert.Pre_int_map_in_range.Facts] (X : FVec Ideal S2097152x8 .f32) (g : FVec Ideal S227x8 .f32)
    (n : FVec Ideal S227 .f32) (im : IVec S8 32) (h : fn (F := Ideal) X g n im = fun _ => 1#1) (k : Fin 8) :
    -524288 ≤ (words im k).toInt ∧ (words im k).toInt ≤ 524288 :=
  both_set ((4294443008#32 : BitVec 32).toInt ≤ (im (ix1 k)).toInt) ((im (ix1 k)).toInt ≤ (524288#32 : BitVec 32).toInt)
    (congrFun h (ix1 k))

end Cert.Proof.Range

end
-- ==== Proof.lean ====
/-
  The certificate's claim. The frames of the kernel's two programs are the launch's; the reference is a straight line of
  host operations. Both programs' results are the same arrays, row by row: the codeword that first attains the greatest
  score, with the row's signs, and the packed index.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelRun
public import proofs.«01_k».proof.Proof.RefValues
public import proofs.«01_k».proof.Proof.Range
public import Idealize.ShloMosaic.Lib.Claim
public import Idealize.ShloMosaic.Adequacy
public import Idealize.ShloMosaic.Init

@[expose] public section

noncomputable section

namespace Cert.Proof

open Idealize.ShloMosaic Idealize.SL.Sem

/-- The reference ends, its arguments unchanged and every counter at zero. -/
theorem reference_frame : quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (RefRun.run (F := Ideal) m ρ)

/-- Kernel and reference compute the same two arrays over the extended reals. -/
theorem same_results (hPre : Cert.Pre_int_map_in_range.Facts) :
    algebraic_KernelIdeal_ReferenceIdeal_pre_int_map_in_range (hKernelIdeal := Cert.KernelIdeal.Gen.facts)
      (hReferenceIdeal := Cert.ReferenceIdeal.Gen.facts) (hPre_int_map_in_range := hPre) := by
  intro m ρ m' ρ' hpre hagree
  have him := fun c k => Range.bounds _ _ _ _ (hpre c) k
  refine ⟨_, _, KernelRun.run m ρ him, (θ_run Cert.ReferenceIdeal.defs _ _).mono (fun r h c => ?_)
    (RefRun.run (F := Ideal) m' ρ')⟩
  obtain ⟨hX, hg, hn, hi⟩ := hagree c
  refine ⟨(h c).1.trans ?_, (h c).2.1.trans ?_, (h c).2.2⟩
  · rw [hX, hg, hn]
    exact RefValues.vals_eq _ _ _
  · rw [hX, hg, hn, hi]
    exact RefValues.idx_eq _ _ _ _

/-- The certificate's claim. -/
theorem claim : Cert.Claim :=
  ⟨Cert.Kernel.Gen.facts, Cert.KernelIdeal.Gen.facts, Cert.ReferenceIdeal.Gen.facts, Range.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    same_results Range.facts⟩

end Cert.Proof

end
